-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S8192x4096 : Shape := ⟨2, ![8192, 4096]⟩
abbrev S4096x64 : Shape := ⟨2, ![4096, 64]⟩
abbrev S8192x1 : Shape := ⟨2, ![8192, 1]⟩
abbrev S512x4096 : Shape := ⟨2, ![512, 4096]⟩
abbrev S512x1 : Shape := ⟨2, ![512, 1]⟩
abbrev S512x64 : Shape := ⟨2, ![512, 64]⟩
abbrev S512 : Shape := ⟨1, ![512]⟩
abbrev S256x128 : Shape := ⟨2, ![256, 128]⟩
abbrev S256x256 : Shape := ⟨2, ![256, 256]⟩
abbrev S128x128 : Shape := ⟨2, ![128, 128]⟩
abbrev S1x128 : Shape := ⟨2, ![1, 128]⟩
abbrev S256x1 : Shape := ⟨2, ![256, 1]⟩
abbrev S128 : Shape := ⟨1, ![128]⟩
abbrev S256 : Shape := ⟨1, ![256]⟩
abbrev S_ : Shape := ⟨0, ![]⟩
abbrev S16 : Shape := ⟨1, ![16]⟩
abbrev S1x16 : Shape := ⟨2, ![1, 16]⟩
abbrev S8192x16 : Shape := ⟨2, ![8192, 16]⟩
abbrev S32x32x128 : Shape := ⟨3, ![32, 32, 128]⟩
abbrev S131072x2x128 : Shape := ⟨3, ![131072, 2, 128]⟩
abbrev S32x128 : Shape := ⟨2, ![32, 128]⟩
abbrev S128x2x128 : Shape := ⟨3, ![128, 2, 128]⟩
abbrev S1x32x128 : Shape := ⟨3, ![1, 32, 128]⟩

abbrev nBuf : Table → Nat
  | .hbm => 16
  | .local .tc .vmem => 7
  | .local .scVector .vmem => 3
  | _ => 0

abbrev bufTy : (tb : Table) → Fin (nBuf tb) → BufTy
  | .hbm, ⟨0, _⟩ => ⟨S8192x4096, .f32⟩
  | .hbm, ⟨1, _⟩ => ⟨S4096x64, .f32⟩
  | .hbm, ⟨2, _⟩ => ⟨S8192x1, .i32⟩
  | .hbm, ⟨3, _⟩ => ⟨S8192x1, .i32⟩
  | .hbm, ⟨4, _⟩ => ⟨S_, .i32⟩
  | .hbm, ⟨5, _⟩ => ⟨S8192x1, .i32⟩
  | .hbm, ⟨6, _⟩ => ⟨S8192x1, .i32⟩
  | .hbm, ⟨7, _⟩ => ⟨S16, .i32⟩
  | .hbm, ⟨8, _⟩ => ⟨S1x16, .i32⟩
  | .hbm, ⟨9, _⟩ => ⟨S8192x16, .i32⟩
  | .hbm, ⟨10, _⟩ => ⟨S8192x16, .i32⟩
  | .hbm, ⟨11, _⟩ => ⟨S8192x16, .i32⟩
  | .hbm, ⟨12, _⟩ => ⟨S32x32x128, .i32⟩
  | .hbm, ⟨13, _⟩ => ⟨S131072x2x128, .f32⟩
  | .hbm, ⟨14, _⟩ => ⟨S131072x2x128, .f32⟩
  | .hbm, ⟨15, _⟩ => ⟨S8192x4096, .f32⟩
  | .local .tc .vmem, ⟨0, _⟩ => ⟨S512x4096, .f32⟩
  | .local .tc .vmem, ⟨1, _⟩ => ⟨S512x4096, .f32⟩
  | .local .tc .vmem, ⟨2, _⟩ => ⟨S4096x64, .f32⟩
  | .local .tc .vmem, ⟨3, _⟩ => ⟨S512x1, .i32⟩
  | .local .tc .vmem, ⟨4, _⟩ => ⟨S512x1, .i32⟩
  | .local .tc .vmem, ⟨5, _⟩ => ⟨S8192x1, .i32⟩
  | .local .tc .vmem, ⟨6, _⟩ => ⟨S8192x1, .i32⟩
  | .local .scVector .vmem, ⟨0, _⟩ => ⟨S32x128, .i32⟩
  | .local .scVector .vmem, ⟨1, _⟩ => ⟨S128x2x128, .f32⟩
  | .local .scVector .vmem, ⟨2, _⟩ => ⟨S128x2x128, .f32⟩
  | _, _ => ⟨S8192x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v10_scv : Ref sig .scVector := ⟨.hbm, 13, rfl⟩
abbrev main_v9_scv : Ref sig .scVector := ⟨.hbm, 12, rfl⟩
abbrev main_v11_scv : Ref sig .scVector := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

@[reducible] def k1_t1_loop : Scf.Loop 32 :=
  let c0_i32 : BitVec 32 := 0#32
  let c32_i32 : BitVec 32 := 32#32
  let v12 : BitVec 32 := Scalar.addi c0_i32 c32_i32
  let c1_i32 : BitVec 32 := 1#32
  ⟨c0_i32, v12, c1_i32⟩
def k1_off1 (k1_t1 : Fin k1_t1_loop.trips) : Fin 2 → Nat :=
  let c0_i32 : BitVec 32 := 0#32
  let c1_i32 : BitVec 32 := 1#32
  let arg2 : BitVec 32 := Scf.iv c0_i32 c1_i32 k1_t1
  let c256_i32 : BitVec 32 := 256#32
  let v18 : BitVec 32 := Scalar.muli arg2 c256_i32
  let v19 : Index := Scalar.indexCast v18
  let c0 : Index := 0#32
  ![v19.toNat, 0]
@[reducible] def k1_t2_loop : Scf.Loop 32 :=
  let c0_i32_3 : BitVec 32 := 0#32
  let c32_i32_4 : BitVec 32 := 32#32
  let v16 : BitVec 32 := Scalar.addi c0_i32_3 c32_i32_4
  let c1_i32_5 : BitVec 32 := 1#32
  ⟨c0_i32_3, v16, c1_i32_5⟩
def k1_off2 (k1_t2 : Fin k1_t2_loop.trips) : Fin 2 → Nat :=
  let c0_i32_3 : BitVec 32 := 0#32
  let c1_i32_5 : BitVec 32 := 1#32
  let arg2 : BitVec 32 := Scf.iv c0_i32_3 c1_i32_5 k1_t2
  let c256_i32 : BitVec 32 := 256#32
  let v18 : BitVec 32 := Scalar.muli arg2 c256_i32
  let v19 : Index := Scalar.indexCast v18
  let c0 : Index := 0#32
  ![v19.toNat, 0]
abbrev stage1_0 : Fin 1 → Memref sig .tc .vmem S8192x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8192x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_581_r0 : BitVec 32 := 0#32
  let c0_i32_582_r0 : BitVec 32 := 0#32
  ![v1.toNat, 0, 0]
def k2_off2 (i : grid2.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c16_i32 : BitVec 32 := 16#32
  let v4 : BitVec 32 := Scalar.muli v3 c16_i32
  let c0_i32_0 : BitVec 32 := 0#32
  let c0_i32_1 : BitVec 32 := 0#32
  ![v4.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S4096x64 : Shape := ⟨2, ![4096, 64]⟩
abbrev S8192x64 : Shape := ⟨2, ![8192, 64]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1 : Shape := ⟨1, ![1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S8192x64, .f32⟩
  | .hbm, ⟨3, _⟩ => ⟨S8192x64, .f32⟩
  | .hbm, ⟨4, _⟩ => ⟨S8192x128, .f32⟩
  | .hbm, ⟨5, _⟩ => ⟨S8192x128, .i32⟩
  | .hbm, ⟨6, _⟩ => ⟨S_, .f32⟩
  | .hbm, ⟨7, _⟩ => ⟨S_, .i32⟩
  | .hbm, ⟨8, _⟩ => ⟨S8192, .f32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S1, .i32⟩
  | .hbm, ⟨22, _⟩ => ⟨S_, .i32⟩
  | .hbm, ⟨23, _⟩ => ⟨S8192x1, .i32⟩
  | .hbm, ⟨24, _⟩ => ⟨S8192x1, .i1⟩
  | .hbm, ⟨25, _⟩ => ⟨S1x1, .i32⟩
  | .hbm, ⟨26, _⟩ => ⟨S8192x1, .i32⟩
  | .hbm, ⟨27, _⟩ => ⟨S8192x1, .i1⟩
  | .hbm, ⟨28, _⟩ => ⟨S8192x1, .i1⟩
  | .hbm, ⟨29, _⟩ => ⟨S_, .i1⟩
  | .hbm, ⟨30, _⟩ => ⟨S8192, .i1⟩
  | .hbm, ⟨31, _⟩ => ⟨S8192x4096, .f32⟩
  | .hbm, ⟨32, _⟩ => ⟨S8192x4096, .i1⟩
  | .hbm, ⟨33, _⟩ => ⟨S_, .f32⟩
  | .hbm, ⟨34, _⟩ => ⟨S8192x4096, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v3 : Ref sig .tc := ⟨.hbm, 9, rfl⟩
abbrev main_call1_v0 : Ref sig .tc := ⟨.hbm, 10, rfl⟩
abbrev main_call1_v1_0 : Ref sig .tc := ⟨.hbm, 11, rfl⟩
abbrev main_v4 : Ref sig .tc := ⟨.hbm, 12, rfl⟩
abbrev main_call2_c : Ref sig .tc := ⟨.hbm, 13, rfl⟩
abbrev main_call2_v0 : Ref sig .tc := ⟨.hbm, 14, rfl⟩
abbrev main_call2_v1 : Ref sig .tc := ⟨.hbm, 15, rfl⟩
abbrev main_call2_c_0 : Ref sig .tc := ⟨.hbm, 16, rfl⟩
abbrev main_call2_v2 : Ref sig .tc := ⟨.hbm, 17, rfl⟩
abbrev main_call2_v3 : Ref sig .tc := ⟨.hbm, 18, rfl⟩
abbrev main_call2_v4 : Ref sig .tc := ⟨.hbm, 19, rfl⟩
abbrev main_call2_v5 : Ref sig .tc := ⟨.hbm, 20, rfl⟩
abbrev main_call2_c_1 : Ref sig .tc := ⟨.hbm, 21, rfl⟩
abbrev main_call2_c_2 : Ref sig .tc := ⟨.hbm, 22, rfl⟩
abbrev main_call2_v6 : Ref sig .tc := ⟨.hbm, 23, rfl⟩
abbrev main_call2_v7 : Ref sig .tc := ⟨.hbm, 24, rfl⟩
abbrev main_call2_v8 : Ref sig .tc := ⟨.hbm, 25, rfl⟩
abbrev main_call2_v9 : Ref sig .tc := ⟨.hbm, 26, rfl⟩
abbrev main_call2_v10 : Ref sig .tc := ⟨.hbm, 27, rfl⟩
abbrev main_call2_v11 : Ref sig .tc := ⟨.hbm, 28, rfl⟩
abbrev main_call2_c_3 : Ref sig .tc := ⟨.hbm, 29, rfl⟩
abbrev main_call2_v12 : Ref sig .tc := ⟨.hbm, 30, rfl⟩
abbrev main_call2_v13 : Ref sig .tc := ⟨.hbm, 31, rfl⟩
abbrev main_call2_v14 : Ref sig .tc := ⟨.hbm, 32, rfl⟩
abbrev main_call2_cst : Ref sig .tc := ⟨.hbm, 33, rfl⟩
abbrev main_call2_v15 : Ref sig .tc := ⟨.hbm, 34, rfl⟩
abbrev main_v5 : Ref sig .tc := ⟨.hbm, 35, rfl⟩

abbrev nD : Nat := 1
abbrev τ : Topo := Topo.v7x

variable {F : FTy → Type} [FloatOps F]
-- ==== Proof.Setup.lean ====
/-
  The SparseCore call's names: the launch's configuration, the resource algebra, and the arrays and buffers of one
  vector subcore's task as the task addresses them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

/-! ## The resource algebra: the handshakes' rounds, the two TensorCore pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-! ## The arrays and buffers of a task -/

abbrev xLoc (d : Dev nD) : Loc nD τ sig := (SparseCore.T d).loc main_v10
abbrev iLoc (d : Dev nD) : Loc nD τ sig := (SparseCore.T d).loc main_v9
abbrev oLoc (d : Dev nD) : Loc nD τ sig := (SparseCore.T d).loc main_v11

abbrev xV : Memref sig .scVector .hbm S131072x2x128 .f32 := Memref.whole main_v10_scv
abbrev iV : Memref sig .scVector .hbm S32x32x128 .i32 := Memref.whole main_v9_scv
abbrev oV : Memref sig .scVector .hbm S131072x2x128 .f32 := Memref.whole main_v11_scv
abbrev sV : Memref sig .scVector .vmem S32x128 .i32 := Memref.whole cc2_scratch0
abbrev aV : Memref sig .scVector .vmem S128x2x128 .f32 := Memref.whole cc2_scratch1
abbrev bV : Memref sig .scVector .vmem S128x2x128 .f32 := Memref.whole cc2_scratch2

/-- The result as a scatter addresses it: the window of its whole extent. -/
abbrev oAll : Memref sig .scVector .hbm S131072x2x128 .f32 :=
  (oV).slice (Rect.unit (s := S131072x2x128) ![0, 0, 0] S131072x2x128.size inb_S131072x2x128_S131072x2x128_0_0_0) (fun _ => rfl)

abbrev cV (L : grid2.Coords) : Fin τ.nSC := (L 0).castLE hcore2
abbrev jV (L : grid2.Coords) : Fin τ.nSub := (L 1).castLE hsub2

/-- A task's row of the position table, as it addresses it. -/
abbrev iRowK (L : grid2.Coords) : Memref sig .scVector .hbm S32x128 .i32 :=
  ((iV).slice (Rect.unit (s := S32x32x128) (k2_off1 L) S1x32x128.size (k2_off1_inb L)) (fun _ => rfl)).squeeze S32x128 squeezes_S1x32x128_S32x128

/-- The strips of a window of the position list a task holds: row `off 0`. -/
abbrev sRow (off : Fin 2 → ℕ) (h : ∀ a, off a + S1x128.size a ≤ S32x128.size a) : Memref sig .scVector .vmem S128 .i32 :=
  ((sV).slice (Rect.unit (s := S32x128) off S1x128.size h) (fun _ => rfl)).squeeze S128 squeezes_S1x128_S128

end Cert.Proof

end
-- ==== Proof.Strips.lean ====
/-
  Strips: where the windows of the task's arrays lie, and what a scatter of one chunk does to the result. The scattered
  contents are compared with a given array `G`: after chunks `0 … n-1` the strips which those chunks name agree with
  `G`, and chunk `n` carries this one chunk further.
-/
module

public import proofs.«01_k».proof.Proof.Setup
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

/-! ## Where the windows lie -/

/-- The window of the whole extent moves nothing. -/
theorem oAll_emb (x : S131072x2x128.Idx) : (oAll).view.emb x = x := by
  funext a
  refine Fin.ext ?_
  show (![0, 0, 0] : Fin 3 → ℕ) a + 1 * (x a).val = (x a).val
  fin_cases a <;> simp

abbrev oAx : Fin S131072x2x128.rank := gathers_S131072x2x128_S128x2x128.axis

/-- An element lies in strip `k` exactly when its first coordinate is `k`. -/
theorem mem_strip {k : Fin (S131072x2x128.size oAx)} {i : S131072x2x128.Idx} :
    i ∈ ((oAll).view.slice (S131072x2x128.rowRect oAx k)).set ↔ i 0 = k := by
  constructor
  · intro h
    obtain ⟨j, -, rfl⟩ := Finset.mem_map.mp h
    have e : ((oAll).view.slice (S131072x2x128.rowRect oAx k)).emb j = (S131072x2x128.rowRect oAx k).emb j :=
      oAll_emb _
    rw [e]
    exact Shape.rowRect_emb_axis oAx k j
  · rintro rfl
    have e : ((oAll).view.slice (S131072x2x128.rowRect oAx (i 0))).emb (S131072x2x128.rowProj oAx i) = i :=
      (oAll_emb _).trans (Shape.rowRect_emb_rowProj oAx i)
    exact Finset.mem_map.mpr ⟨_, Finset.mem_univ _, e⟩

theorem mem_strips {p : ℕ → Prop} {i : (oAll).view.ty.Idx} :
    i ∈ SparseCore.rowsWhere (oAll).view oAx p ↔ p ((show S131072x2x128.Idx from i) 0).val := by
  rw [SparseCore.mem_rowsWhere]
  constructor
  · rintro ⟨k, hk, h⟩; exact (congrArg (fun z : Fin 131072 => p z.val) (mem_strip.mp h)).mpr hk
  · intro h; exact ⟨(show S131072x2x128.Idx from i) 0, h, mem_strip.mpr rfl⟩

/-- A window of the position list is one of the table's rows. -/
theorem sRow_read (R : S32x128.Idx → Elt F .i32) (off : Fin 2 → ℕ) (h : ∀ a, off a + S1x128.size a ≤ S32x128.size a) (x : S128.Idx) :
    (sRow off h).view.read (Elt F) R x
      = R (ix2 ⟨off 0, by have := h 0; change off 0 + 1 ≤ 32 at this; omega⟩ (x 0)) := by
  have h1 : off 1 = 0 := by have := h 1; change off 1 + 128 ≤ 128 at this; omega
  have hx : Shape.reshapeEquiv (s := S1x128) (s' := S128) squeezes_S1x128_S128.numel_eq x = ix2 0 (x 0) :=
    Shape.reshapeEquiv_eq_of_rowMajor _ (by
      refine (Shape.rowMajor_val_two (d := ![1, 128]) (ix2 0 (x 0))).trans (Eq.trans ?_ (Shape.rowMajor_val_one (d := ![128]) x).symm)
      show 0 * _ + (x 0).val = (x 0).val; omega)
  rw [View.read_apply]
  refine (cast_eq _ _).trans (congrArg R ?_)
  show (Rect.unit (s := S32x128) off S1x128.size h).emb (Shape.reshapeEquiv squeezes_S1x128_S128.numel_eq x) = _
  rw [hx]
  funext a
  refine Fin.ext ?_
  match a with
  | ⟨0, _⟩ => show off 0 + 1 * 0 = off 0; omega
  | ⟨1, _⟩ => show off 1 + 1 * (x 0).val = (x 0).val; omega

/-- Reading through a view of a shape equal to another's. -/
theorem cast_read {κ : Kind} {sp : Space} {s s' : Shape} {e : EltTy} (v : View sig κ sp s e) (hs : s = s') (f : v.ty.Contents (Elt F)) (x : s'.Idx) :
    (v.cast hs rfl).read (Elt F) f x = v.read (Elt F) f ((Shape.idxEquiv hs).symm x) := by
  cases hs; rfl

theorem idxEquiv_symm_val {n : ℕ} {z z' : Fin n → ℕ} (h : (⟨n, z⟩ : Shape) = ⟨n, z'⟩) (x : (⟨n, z'⟩ : Shape).Idx) (a : Fin n) :
    ((Shape.idxEquiv h).symm x a).val = (x a).val := by
  have e : z = z' := by injection h
  subst e; rfl

/-! ## One chunk's scatter -/

section Chunk

variable (d : Dev nD) (L : grid2.Coords)

/-- The worker's number: its subcore's, twice, and its core's. -/
abbrev wkr (L : grid2.Coords) : ℕ := 2 * (L 1).val + (L 0).val

/-- The strips which the table `R` names for worker `L` hold in `G` what the input holds at the chunk's strips. -/
def Placed (R : S32x128.Idx → Elt F .i32) (X G : S131072x2x128.Idx → Elt F .f32) : Prop :=
  ∀ (c : Fin 32) (k : Fin 128) (i j : S131072x2x128.Idx), (i 0).val = BitVec.toNat (R (ix2 c k)) →
    (j 0).val = 4096 * wkr L + 128 * c.val + k.val → j 1 = i 1 → j 2 = i 2 → G i = X j

/-- The strips named by the chunks before `n`. -/
def Named (R : S32x128.Idx → Elt F .i32) (n : ℕ) (i : S131072x2x128.Idx) : Prop :=
  ∃ (c : Fin 32) (k : Fin 128), c.val < n ∧ (i 0).val = BitVec.toNat (R (ix2 c k))

/-- The input strips of chunk `n`, as the task addresses them. -/
abbrev xChunk (n : ℕ) (hn : n < 32) : Memref sig .scVector .hbm S128x2x128 .f32 :=
  (xV).slice (Rect.unit (s := S131072x2x128) (k2_off2 L (BitVec.ofNat 32 (8 * n))) S128x2x128.size (k2_off2_inb L ⟨n, hn⟩)) (fun _ => rfl)

theorem xChunk_read (X : S131072x2x128.Idx → Elt F .f32) (n : ℕ) (hn : n < 32) (x : S128x2x128.Idx) (j : S131072x2x128.Idx)
    (h0 : (j 0).val = 4096 * wkr L + 128 * n + (x 0).val) (h1 : (j 1).val = (x 1).val) (h2 : (j 2).val = (x 2).val) :
    (xChunk L n hn).view.read (Elt F) X x = X j := by
  rw [View.read_apply]
  refine (cast_eq _ _).trans (congrArg X ?_)
  funext a
  refine Fin.ext ?_
  show k2_off2 L (BitVec.ofNat 32 (8 * n)) a + 1 * (x a).val = (j a).val
  have e := congrFun (k2_off2_eq L ⟨n, hn⟩) a
  dsimp only at e
  rw [e]
  match a with
  | ⟨0, _⟩ => show 8192 * (L 1).val + 4096 * (L 0).val + 128 * n + 1 * (x 0).val = (j 0).val; unfold wkr at h0; omega
  | ⟨1, _⟩ => show 0 + 1 * (x 1).val = (j 1).val; omega
  | ⟨2, _⟩ => show 0 + 1 * (x 2).val = (j 2).val; omega

/-- One chunk: the contents agreeing with `G` on the strips of the chunks before `n` agree, after chunk `n`'s scatter, on
    chunk `n`'s strips too. -/
theorem scatter_step (R : S32x128.Idx → Elt F .i32) (X G : S131072x2x128.Idx → Elt F .f32) (hG : Placed L R X G)
    (src : Memref sig .scVector .vmem S128x2x128 .f32) (n : ℕ) (hn : n < 32)
    (h : ∀ a, (![n, 0] : Fin 2 → ℕ) a + S1x128.size a ≤ S32x128.size a)
    (hin : ∀ x, ((sRow ![n, 0] h).view.read (Elt F) R x).toNat < S131072x2x128.size oAx)
    (hinj : Function.Injective fun x => ((sRow ![n, 0] h).view.read (Elt F) R x).toNat)
    (hnum : S128.numel = S128x2x128.size gathers_S131072x2x128_S128x2x128.axis')
    (fs : Buf (Elt F) (src.view.loc (V d (cV L) (jV L)))) (hfs : src.view.read (Elt F) fs = (xChunk L n hn).view.read (Elt F) X)
    (f : Buf (Elt F) ((oAll).view.loc (V d (cV L) (jV L)))) (hf : ∀ i, Named R n i → f i = G i) :
    ∀ i, Named R (n + 1) i →
      SparseCore.scatterBuf (V d (cV L) (jV L)) (oAll).view oAx
        (SparseCore.rows ((sRow ![n, 0] h).view.read (Elt F) R) hnum hin)
        (SparseCore.scatterRowPayload (V d (cV L) (jV L)) src gathers_S131072x2x128_S128x2x128 fs) f i = G i := by
  have hrow : ∀ k : Fin 128, (SparseCore.rows ((sRow ![n, 0] h).view.read (Elt F) R) hnum hin k).val
      = BitVec.toNat (R (ix2 ⟨n, hn⟩ k)) := by
    intro k
    show ((sRow ![n, 0] h).view.read (Elt F) R (S128.rowMajor.symm (k.cast hnum.symm))).toNat = _
    rw [sRow_read]
    have hk : (S128.rowMajor.symm (k.cast hnum.symm)) 0 = k := by
      refine Fin.ext ?_
      rw [← Shape.rowMajor_val_one (d := ![128]) (S128.rowMajor.symm (k.cast hnum.symm))]
      exact congrArg Fin.val (Equiv.apply_symm_apply S128.rowMajor (k.cast hnum.symm))
    rw [hk]; rfl
  intro i hi
  by_cases hm : ∃ k : Fin 128, (i 0).val = BitVec.toNat (R (ix2 ⟨n, hn⟩ k))
  · obtain ⟨k, hk⟩ := hm
    have hik : i 0 = SparseCore.rows ((sRow ![n, 0] h).view.read (Elt F) R) hnum hin k := Fin.ext (hk.trans (hrow k).symm)
    refine (SparseCore.scatterBuf_of_mem (V d (cV L) (jV L)) (oAll).view oAx _ (SparseCore.rows_injective hinj) _ _ (k := k) (mem_strip.mpr hik)).trans ?_
    have e : ((oAll).view.slice (S131072x2x128.rowRect oAx
        (SparseCore.rows ((sRow ![n, 0] h).view.read (Elt F) R) hnum hin k))).emb (S131072x2x128.rowProj oAx i) = i := by
      rw [← hik]
      exact (oAll_emb _).trans (Shape.rowRect_emb_rowProj oAx i)
    refine (congrArg _ e.symm).trans ((View.write_emb_of_mem _ _ (Finset.mem_univ _)).trans ((cast_eq _ _).trans ?_))
    refine (cast_read _ _ _ _).trans ?_
    have hs := S128x2x128.rowRect_emb_val gathers_S131072x2x128_S128x2x128.axis' k
      ((Shape.idxEquiv gathers_S131072x2x128_S128x2x128.rowShape_eq).symm (S131072x2x128.rowProj oAx i))
    set y := (S128x2x128.rowRect gathers_S131072x2x128_S128x2x128.axis' k).emb
      ((Shape.idxEquiv gathers_S131072x2x128_S128x2x128.rowShape_eq).symm (S131072x2x128.rowProj oAx i)) with hy
    show src.view.read (Elt F) fs y = G i
    have y0 : (y 0).val = k.val := hs 0
    have y1 : (y 1).val = (i 1).val := (hs 1).trans (idxEquiv_symm_val _ _ 1)
    have y2 : (y 2).val = (i 2).val := (hs 2).trans (idxEquiv_symm_val _ _ 2)
    have hw : 4096 * wkr L + 128 * n + k.val < 131072 := by
      have := (L 0).isLt; have := (L 1).isLt; have := k.isLt
      unfold wkr; change (L 0).val < 2 at *; change (L 1).val < 16 at *; omega
    let j : S131072x2x128.Idx := fun a => match a with | ⟨0, _⟩ => ⟨_, hw⟩ | ⟨1, _⟩ => i 1 | ⟨2, _⟩ => i 2
    rw [hfs, xChunk_read L X n hn y j (by show _ = _; rw [y0]) y1.symm y2.symm]
    exact (hG ⟨n, hn⟩ k i j hk rfl rfl rfl).symm
  · rw [SparseCore.scatterBuf_of_not_mem]
    · refine hf i ?_
      obtain ⟨c, k, hc, hk⟩ := hi
      refine ⟨c, k, ?_, hk⟩
      rcases Nat.lt_succ_iff_lt_or_eq.mp hc with h | h
      · exact h
      · exact absurd ⟨k, by rw [hk]; congr 3; exact Fin.ext h⟩ hm
    · intro hmem
      obtain ⟨k, -, hk⟩ := Finset.mem_biUnion.mp hmem
      exact hm ⟨k, by rw [← hrow k, mem_strip.mp hk]⟩

end Chunk

end Cert.Proof

end
-- ==== Proof.Tile.lean ====
/-
  One vector subcore's task: its row of the position table fetched, then thirty-two chunks of strips read into the two
  row buffers in turn and scattered onto the strips of the result which the table names.
-/
module

public import proofs.«01_k».proof.Proof.Strips

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 eq_ix1 eq_ix2)

variable {F : FTy → Type}

local notation "𝕄" => MT nD τ sig (HIx 1) (Elt F) ℕ UU ℕ

section Task

variable [FloatOps F] (d : Dev nD) (L : grid2.Coords)

abbrev xPts (q : PosShare TreeShare) (f : Buf (Elt F) ((xV).view.loc (V d (cV L) (jV L)))) : sProp 𝕄 := (xV).view.loc (V d (cV L) (jV L)) ↦{q} f
abbrev iPts (q : PosShare TreeShare) (f : Buf (Elt F) ((iV).view.loc (V d (cV L) (jV L)))) : sProp 𝕄 := (iV).view.loc (V d (cV L) (jV L)) ↦{q} f
abbrev sPts (f : Buf (Elt F) ((sV).view.loc (V d (cV L) (jV L)))) : sProp 𝕄 := (sV).view.loc (V d (cV L) (jV L)) ↦{fullShare} f
abbrev aPts (f : Buf (Elt F) ((aV).view.loc (V d (cV L) (jV L)))) : sProp 𝕄 := (aV).view.loc (V d (cV L) (jV L)) ↦{fullShare} f
abbrev bPts (f : Buf (Elt F) ((bV).view.loc (V d (cV L) (jV L)))) : sProp 𝕄 := (bV).view.loc (V d (cV L) (jV L)) ↦{fullShare} f
/-- The strips of the result whose number satisfies `p`. -/
abbrev oPts (p : ℕ → Prop) (f : Buf (Elt F) ((oAll).view.loc (V d (cV L) (jV L)))) : sProp 𝕄 :=
  (oAll).view.loc (V d (cV L) (jV L)) ↦[SparseCore.rowsWhere (oAll).view gathers_S131072x2x128_S128x2x128.axis p]{fullShare} f

abbrev cAcell (d : Dev nD) (c : Fin τ.nSC) (i : Fin τ.nSub) : GSem nD τ sig := (V d c i, .dma cc2_scratch3.sem)
abbrev cBcell (d : Dev nD) (c : Fin τ.nSC) (i : Fin τ.nSub) : GSem nD τ sig := (V d c i, .dma cc2_scratch4.sem)
abbrev cCcell (d : Dev nD) (c : Fin τ.nSC) (i : Fin τ.nSub) : GSem nD τ sig := (V d c i, .dma cc2_scratch5.sem)
abbrev cDcell (d : Dev nD) (c : Fin τ.nSC) (i : Fin τ.nSub) : GSem nD τ sig := (V d c i, .dma cc2_scoped0.sem)

/-- The strip numbers worker `L`'s table names. -/
abbrev InTable (R : S32x128.Idx → Elt F .i32) (n : ℕ) : Prop := ∃ (c : Fin 32) (k : Fin 128), n = BitVec.toNat (R (ix2 c k))

/-- A table whose words are strip numbers, pairwise distinct. -/
structure GoodTable (R : S32x128.Idx → Elt F .i32) : Prop where
  lt : ∀ i, BitVec.toNat (R i) < 131072
  inj : Function.Injective fun i => BitVec.toNat (R i)

theorem waits_insert {sm : SemLoc sig} {W W' : Waits sig (HIx 1)} (h : ∀ p ∈ W', p ∈ W ∨ p.2 = none) :
    ∀ p ∈ insert (sm, (default : HIx 1)) W', p ∈ W ∨ p.2 = none := fun p hp =>
  (Finset.mem_insert.mp hp).elim (fun e => .inr (e ▸ rfl)) (h p)

/-- Contents that agree with `G` on every strip the table names are `G` there. -/
theorem oPts_agree (R : S32x128.Idx → Elt F .i32) (G f : Buf (Elt F) ((oAll).view.loc (V d (cV L) (jV L))))
    (h : ∀ i, Named R 32 i → f i = G i) : oPts d L (InTable R) f ⊢ oPts d L (InTable R) G := by
  refine Entails.of_eq (pointsTo_congr fun i hi => ?_)
  rw [mem_strips] at hi
  obtain ⟨c, k, hk⟩ := hi
  exact h i ⟨c, k, c.isLt, hk⟩

set_option maxHeartbeats 4000000 in
/-- The task of worker `L`: it leaves, on the strips its table names, what the input holds at its own strips. -/
theorem tile_run (fx : Buf (Elt F) ((xV).view.loc (V d (cV L) (jV L)))) (fi : Buf (Elt F) ((iV).view.loc (V d (cV L) (jV L))))
    (fo G : Buf (Elt F) ((oV).view.loc (V d (cV L) (jV L)))) (qx qi : PosShare TreeShare)
    (R : S32x128.Idx → Elt F .i32) (hR : (iRowK L).view.read (Elt F) fi = R) (hT : GoodTable R) (hG : Placed L R fx G)
    (fs : Buf (Elt F) ((sV).view.loc (V d (cV L) (jV L)))) (fa : Buf (Elt F) ((aV).view.loc (V d (cV L) (jV L))))
    (fb : Buf (Elt F) ((bV).view.loc (V d (cV L) (jV L))))
    (O : CellTallies nD τ sig (HIx 1)) (W : Waits sig (HIx 1)) (hO : ∀ g, O g none = 0) :
    iprop(levAts (K (F := F)).L (K (F := F)).lev
        ∗ xPts d L qx fx ∗ iPts d L qi fi ∗ oPts d L (InTable R) fo
        ∗ sPts d L fs ∗ aPts d L fa ∗ bPts d L fb
        ∗ semVal (cAcell d (cV L) (jV L)) 0 ∗ semVal (cBcell d (cV L) (jV L)) 0 ∗ semVal (cCcell d (cV L) (jV L)) 0 ∗ semVal (cDcell d (cV L) (jV L)) 0
        ∗ owes (V d (cV L) (jV L)) O W)
      ⊢ wp frame (wpE (defs₀ (F := F)) 𝒱₀ (V d (cV L) (jV L)) none) Set.univ
          (cc2_body L xV (Memref.isWhole_whole _) iV (Memref.isWhole_whole _) oV (Memref.isWhole_whole _)
            sV (Memref.isWhole_whole _) aV (Memref.isWhole_whole _) bV (Memref.isWhole_whole _) cc2_scratch3 cc2_scratch4 cc2_scratch5 cc2_scoped0)
          fun _ => iprop(xPts d L qx fx ∗ iPts d L qi fi ∗ oPts d L (InTable R) G
        ∗ (∃ f, sPts d L f) ∗ (∃ f, aPts d L f) ∗ (∃ f, bPts d L f)
        ∗ semVal (cAcell d (cV L) (jV L)) 0 ∗ semVal (cBcell d (cV L) (jV L)) 0 ∗ semVal (cCcell d (cV L) (jV L)) 0 ∗ semVal (cDcell d (cV L) (jV L)) 0
        ∗ ∃ W', ⌜∀ p ∈ W', p ∈ W ∨ p.2 = none⌝ ∗ owes (V d (cV L) (jV L)) O W') := by
  have hin : ∀ off h x, ((sRow off h).view.read (Elt F) R x).toNat < S131072x2x128.size gathers_S131072x2x128_S128x2x128.axis := by
    intro off h x; rw [sRow_read]; exact hT.lt _
  have hinj : ∀ off h, Function.Injective fun x => ((sRow off h).view.read (Elt F) R x).toNat := by
    intro off h x y e
    dsimp only at e
    rw [sRow_read, sRow_read] at e
    exact (eq_ix1 x).trans ((congrArg ix1 (congrFun (hT.inj e) 1)).trans (eq_ix1 y).symm)
  have hown : ∀ off h x, InTable R ((sRow off h).view.read (Elt F) R x).toNat := by
    intro off h x; rw [sRow_read]; exact ⟨_, _, rfl⟩
  simp only [cc2_body_eq_skeleton]; unfold cc2_body_skel
  simp only [k2_part1_eq_skeleton]; unfold k2_part1_skel
  unfold xPts iPts oPts sPts aPts bPts
  iintro ⟨#Hlv, Hx, Hi, Ho, Hs, Ha, Hb, HsA, HsB, HsC, HsD, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Hs2 := (Entails.of_eq (show ((sV).view.loc (V d (cV L) (jV L)) ↦{fullShare} View.write (Elt F) (sV).view fs (tile_run.sl.dma0 d L fi) Finset.univ : sProp 𝕄)
    = ((sV).view.loc (V d (cV L) (jV L)) ↦{fullShare} R) by rw [View.write_whole_univ]; unfold tile_run.sl.dma0; rw [hR])) $$ Hs
  sl_exec
  sl_step
  isplitl [Hx]; · iexact Hx
  isplitl [Hi]; · iexact Hi
  isplitl [Ho]
  · iapply (oPts_agree d L R G _ ?_) $$ Ho
    iterate 32
      refine scatter_step d L R fx G hG _ _ (by decide) _ _ (hinj _ _) _ _ (by rw [View.write_whole_univ]; rfl) _ ?_
    rintro i ⟨c, k, h, -⟩
    exact absurd h (Nat.not_lt_zero _)
  isplitl [Hs2]; · iexists _; iexact Hs2
  isplitl [Ha]; · iexists _; iexact Ha
  isplitl [Hb]; · iexists _; iexact Hb
  isplitl [HsA]; · iexact HsA
  isplitl [HsB]; · iexact HsB
  isplitl [HsC]; · iexact HsC
  isplitl [HsD]; · iexact HsD
  iexists _; isplitr
  swap; · iexact HO
  ipureintro
  repeat refine waits_insert ?_
  exact fun p hp => .inl hp

end Task

end Cert.Proof

end
-- ==== Proof.Deal.lean ====
/-
  How the SparseCore call's operands are dealt to its thirty-two tasks: each a thirty-second share of the input strips
  and of the position table, and the strips of the result which its row of the table names. The table's words are
  distinct strip numbers, so those sets of strips are disjoint and cover the result.
-/
module

public import proofs.«01_k».proof.Proof.Tile
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2)
open Idealize.ShloMosaic.ShareLeaves (leaf pointsTo_leaves)

variable {F : FTy → Type}

local notation "𝕄" => MT nD τ sig (HIx 1) (Elt F) ℕ UU ℕ

/-- The task at core `c` and subcore `s`. -/
def coords (c : Fin 2) (s : Fin 16) : grid2.Coords :=
  fun | 0 => c | 1 => s | ⟨_ + 2, h⟩ => absurd h (Nat.not_lt.2 (Nat.le_add_left _ _))

/-- A position table whose words are strip numbers, pairwise distinct. -/
structure GoodIndex (I : S32x32x128.Idx → Elt F .i32) : Prop where
  lt : ∀ i, BitVec.toNat (I i) < 131072
  inj : Function.Injective fun i => BitVec.toNat (I i)

theorem wkr_lt (L : grid2.Coords) : wkr L < 32 := by
  have h0 := (L 0).isLt; have h1 := (L 1).isLt
  change (L 0).val < 2 at h0; change (L 1).val < 16 at h1
  unfold wkr; omega

/-- Worker `L`'s row of the position table. -/
abbrev row (I : S32x32x128.Idx → Elt F .i32) (L : grid2.Coords) : S32x128.Idx → Elt F .i32 := (iRowK L).view.read (Elt F) I

theorem row_apply (I : S32x32x128.Idx → Elt F .i32) (L : grid2.Coords) (x : S32x128.Idx) :
    row I L x = I (ix3 ⟨wkr L, wkr_lt L⟩ (x 0) (x 1)) := by
  have hx : Shape.reshapeEquiv (s := S1x32x128) (s' := S32x128) squeezes_S1x32x128_S32x128.numel_eq x = ix3 0 (x 0) (x 1) :=
    Shape.reshapeEquiv_eq_of_rowMajor _ (by
      refine (Shape.rowMajor_val_three (d := ![1, 32, 128]) (ix3 0 (x 0) (x 1))).trans (Eq.trans ?_ (Shape.rowMajor_val_two (d := ![32, 128]) x).symm)
      show (0 * _ + (x 0).val) * _ + (x 1).val = (x 0).val * _ + (x 1).val; simp)
  unfold row
  rw [View.read_apply]
  refine (cast_eq _ _).trans (congrArg I ?_)
  show (Rect.unit (s := S32x32x128) (k2_off1 L) S1x32x128.size (k2_off1_inb L)).emb (Shape.reshapeEquiv squeezes_S1x32x128_S32x128.numel_eq x) = _
  rw [hx]
  funext a
  refine Fin.ext ?_
  have e := congrFun (k2_off1_eq L) a
  match a with
  | ⟨0, _⟩ => show k2_off1 L 0 + 1 * 0 = wkr L; rw [show k2_off1 L 0 = 2 * (L 1).val + (L 0).val from e, Nat.mul_zero, Nat.add_zero]
  | ⟨1, _⟩ => show k2_off1 L 1 + 1 * (x 0).val = (x 0).val; rw [show k2_off1 L 1 = 0 from e]; omega
  | ⟨2, _⟩ => show k2_off1 L 2 + 1 * (x 1).val = (x 1).val; rw [show k2_off1 L 2 = 0 from e]; omega

theorem goodTable_row {I : S32x32x128.Idx → Elt F .i32} (h : GoodIndex I) (L : grid2.Coords) : GoodTable (row I L) where
  lt i := by rw [row_apply]; exact h.lt _
  inj x y e := by
    dsimp only at e
    rw [row_apply, row_apply] at e
    have e' := h.inj e
    exact (eq_ix2 x).trans ((congrArg₂ ix2 (congrFun e' 1) (congrFun e' 2)).trans (eq_ix2 y).symm)

/-- Two tasks name no strip in common. -/
theorem named_disjoint {I : S32x32x128.Idx → Elt F .i32} (h : GoodIndex I) {L L' : grid2.Coords} {n : ℕ}
    (hn : InTable (row I L) n) (hn' : InTable (row I L') n) : wkr L = wkr L' := by
  obtain ⟨c, k, rfl⟩ := hn
  obtain ⟨c', k', e⟩ := hn'
  rw [row_apply, row_apply] at e
  exact congrArg Fin.val (congrFun (h.inj e) 0)

/-- Every strip is named by some task. -/
theorem named_cover {I : S32x32x128.Idx → Elt F .i32} (h : GoodIndex I) (n : ℕ) (hn : n < 131072) :
    ∃ (c : Fin 2) (s : Fin 16), InTable (row I (coords c s)) n := by
  have hsur : Function.Surjective (α := S32x32x128.Idx) (β := Fin 131072) fun i => Fin.mk (BitVec.toNat (I i)) (h.lt i) := by
    refine ((Fintype.bijective_iff_injective_and_card (α := S32x32x128.Idx) (β := Fin 131072) fun i => Fin.mk (BitVec.toNat (I i)) (h.lt i)).mpr ⟨fun i j e => ?_, ?_⟩).2
    · have e' := congrArg Fin.val e
      exact h.inj e'
    · rw [Shape.card_idx, Fintype.card_fin]; rfl
  obtain ⟨i, hi⟩ := hsur ⟨n, hn⟩
  have hi0 := (i 0).isLt
  change (i 0).val < 32 at hi0
  refine ⟨⟨(i 0).val % 2, by omega⟩, ⟨(i 0).val / 2, by omega⟩, i 1, i 2, ?_⟩
  rw [row_apply]
  have e : (ix3 ⟨wkr (coords ⟨(i 0).val % 2, by omega⟩ ⟨(i 0).val / 2, by omega⟩), wkr_lt _⟩ (i 1) (i 2) : S32x32x128.Idx) = i := by
    funext a
    match a with
    | ⟨0, _⟩ => refine Fin.ext ?_; show 2 * ((i 0).val / 2) + (i 0).val % 2 = (i 0).val; omega
    | ⟨1, _⟩ => rfl
    | ⟨2, _⟩ => rfl
  exact (congrArg Fin.val hi).symm.trans (congrArg (fun j => BitVec.toNat (I j)) e.symm)

/-! ## The split -/

/-- A task's share of the arrays the tasks read. -/
abbrev shr (c : Fin 2) (s : Fin 16) : PosShare TreeShare := leaf 4 (leaf 1 fullShare c) s

variable (d : Dev nD)

/-- The strips of the result which the task at core `c` and subcore `s` writes. -/
abbrev mine (I : S32x32x128.Idx → Elt F .i32) (cs : Fin 2 × Fin 16) : Finset S131072x2x128.Idx :=
  SparseCore.rowsWhere (oAll).view oAx (InTable (row I (coords cs.1 cs.2)))

theorem mine_disjoint {I : S32x32x128.Idx → Elt F .i32} (h : GoodIndex I) :
    ∀ cs ∈ (Finset.univ : Finset (Fin 2 × Fin 16)), ∀ cs' ∈ (Finset.univ : Finset (Fin 2 × Fin 16)), cs ≠ cs' → Disjoint (mine I cs) (mine I cs') := by
  intro cs _ cs' _ hne
  refine SparseCore.rowsWhere_disjoint _ _ fun n hn hn' => hne ?_
  have e : 2 * cs.2.val + cs.1.val = 2 * cs'.2.val + cs'.1.val := named_disjoint h hn hn'
  have h1 := cs.1.isLt; have h2 := cs'.1.isLt
  exact Prod.ext (Fin.ext (by omega)) (Fin.ext (by omega))

theorem coord0_lt (i : S131072x2x128.Idx) : (i 0).val < 131072 := (i 0).isLt

theorem mine_some {I : S32x32x128.Idx → Elt F .i32} (h : GoodIndex I) (i : S131072x2x128.Idx) :
    ∃ cs ∈ (Finset.univ : Finset (Fin 2 × Fin 16)), i ∈ mine I cs := by
  have hc := named_cover h (i 0).val (coord0_lt i)
  refine hc.elim fun c hc => hc.elim fun s hn => Exists.intro (c, s) (And.intro (Finset.mem_univ _) ?_)
  unfold mine
  rw [mem_strips]
  exact hn

theorem mine_cover {I : S32x32x128.Idx → Elt F .i32} (h : GoodIndex I) :
    (Finset.univ : Finset (Fin 2 × Fin 16)).biUnion (mine I) = Finset.univ := by
  rw [Finset.eq_univ_iff_forall]
  intro i
  rw [Finset.mem_biUnion]
  exact mine_some h i

theorem result_dealt {I : S32x32x128.Idx → Elt F .i32} (h : GoodIndex I) (f : Buf (Elt F) (oLoc d)) :
    (oLoc d ↦{fullShare} f : sProp 𝕄)
      = bigSep Finset.univ fun c : Fin 2 => bigSep Finset.univ fun s : Fin 16 => oLoc d ↦[mine I (c, s)]{fullShare} f := by
  rw [← bigSep_univ_prod (Φ := fun cs : Fin 2 × Fin 16 => (oLoc d ↦[mine I cs]{fullShare} f : sProp 𝕄)),
    ← pointsTo_biUnion Finset.univ (ℓ := oLoc d) (mine I) (mine_disjoint h), mine_cover h]; try rfl

theorem operand_dealt {ℓ : Loc nD τ sig} (f : Buf (Elt F) ℓ) :
    (ℓ ↦{fullShare} f : sProp 𝕄)
      = bigSep Finset.univ fun c : Fin 2 => bigSep Finset.univ fun s : Fin 16 => ℓ ↦{shr c s} f :=
  (pointsTo_leaves Finset.univ f 1 fullShare).trans (bigSep_congr fun c _ => pointsTo_leaves Finset.univ f 4 (leaf 1 fullShare c))

end Cert.Proof

end
-- ==== Proof.Launch.lean ====
/-
  The SparseCore call's protocol: what each of its tasks takes and brings back, and that the kernel's body keeps it.
-/
module

public import proofs.«01_k».proof.Proof.Deal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2)
open Idealize.ShloMosaic.ShareLeaves (leaf pointsTo_leaves)

variable {F : FTy → Type}

abbrev D [FloatOps F] : Defs nD τ sig (Elt F) (ΛP (F := F)) := Pipeline.defs pcfgs defs₀

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds. -/
abbrev EH : Emb UH (MT nD τ sig (HIx 1) (Elt F) ℕ UU ℕ) := embL

/-- The TensorCore pipelines' rounds. -/
abbrev EP : Emb UP (MT nD τ sig (HIx 1) (Elt F) ℕ UU ℕ) := (Emb.inl : Emb UP (UP × Counters)).trans embR

/-! ## What the call starts from and leaves -/

/-- The contents of the call's arrays on each device: the input strips, the position table, the result before and after. -/
structure Plan (F : FTy → Type) where
  X : Dev nD → S131072x2x128.Idx → Elt F .f32
  I : Dev nD → S32x32x128.Idx → Elt F .i32
  O₀ : Dev nD → S131072x2x128.Idx → Elt F .f32
  G : Dev nD → S131072x2x128.Idx → Elt F .f32
  good : ∀ d, GoodIndex (I d)
  placed : ∀ d L, Placed L (row (I d) L) (X d) (G d)

/-- What a task holds of the call's arrays, the result's strips at `O`. -/
abbrev held (B : Plan F) (d : Dev nD) (O : S131072x2x128.Idx → Elt F .f32) (c : Fin 2) (s : Fin 16) : sProp 𝕄 :=
  iprop(xPts d (coords c s) (shr c s) (B.X d) ∗ iPts d (coords c s) (shr c s) (B.I d) ∗ oPts d (coords c s) (InTable (row (B.I d) (coords c s))) O)

/-- A core takes what its tasks take, and brings back what they bring back. -/
def P (B : Plan F) : (K (F := F)).Pay (nD := nD) (Val := Elt F) (Name := ℕ) (U := UU) where
  st := fun q d c => match q with | 0 => bigSep Finset.univ fun s : Fin 16 => held B d (B.O₀ d) c s
  dn := fun q d c => match q with | 0 => bigSep Finset.univ fun s : Fin 16 => held B d (B.G d) c s
  go := fun q d c i => match q with | 0 => held B d (B.O₀ d) c i
  td := fun q d c i => match q with | 0 => held B d (B.G d) c i
  x := fun _ _ => iprop(emp)

instance P_storable (B : Plan F) : (P B).IsStorable where
  st q d c := match q with
    | 0 => (inferInstance : BI.Storable (upEmb : UEmb _ 𝕄) (bigSep Finset.univ fun s : Fin 16 => held B d (B.O₀ d) c s))
  dn q d c := match q with
    | 0 => (inferInstance : BI.Storable (upEmb : UEmb _ 𝕄) (bigSep Finset.univ fun s : Fin 16 => held B d (B.G d) c s))
  go q d c i := match q with
    | 0 => (inferInstance : BI.Storable (upEmb : UEmb _ 𝕄) (held B d (B.O₀ d) c i))
  td q d c i := match q with
    | 0 => (inferInstance : BI.Storable (upEmb : UEmb _ 𝕄) (held B d (B.G d) c i))

theorem vecSplit (B : Plan F) : (K (F := F)).VecSplit' (P B) 0 := by
  intro d c
  show (bigSep Finset.univ fun s : Fin 16 => held B d (B.O₀ d) c s) ⊢ |={Set.univ}=> iprop(
      (bigSep Finset.univ fun s : Fin 16 => held B d (B.O₀ d) c s)
      ∗ ((bigSep Finset.univ fun s : Fin 16 => held B d (B.G d) c s) -∗ bigSep Finset.univ fun s : Fin 16 => held B d (B.G d) c s))
  iintro H; imodintro
  isplitl [H]; · iexact H
  iintro H; iexact H

/-! ## A task, from what the launch hands its subcore -/

section Task

variable (d : Dev nD) (L : grid2.Coords)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (V d (cV L) (jV L))).erase (cAcell d (cV L) (jV L))).erase (cBcell d (cV L) (jV L))).erase (cCcell d (cV L) (jV L))).erase
              (cDcell d (cV L) (jV L))) fun g => semVal g 0) := by
  unfold SparseCore.Cfg.ownSems0
  rw [SparseCore.bigSep_erase' ((mem_ownCells (g := cAcell d (cV L) (jV L))).mpr ⟨rfl, by
      show (SemLoc.dma cc2_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc2_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc2_scratch5.sem : SemLoc sig).isScoped .scVector = true; decide⟩⟩⟩),
    SparseCore.bigSep_erase' (Finset.mem_erase.mpr ⟨by simp [cCcell, cDcell]; decide, Finset.mem_erase.mpr ⟨by simp [cBcell, cDcell]; decide,
      Finset.mem_erase.mpr ⟨by simp [cAcell, cDcell]; decide, (mem_ownCells (g := cDcell d (cV L) (jV L))).mpr ⟨rfl, by
        show (SemLoc.dma cc2_scoped0.sem : SemLoc sig).isScoped .scVector = true; decide⟩⟩⟩⟩)]

/-- The position list and the two strip buffers are among the subcore's own: they are them, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
        SparseCore.Cfg.mem_ownRefs_of_owner (p := Proc.scVector (cV L) (jV L)) (b := (Proc.scVector (cV L) (jV L)).devRef cc2_scratch2) rfl⟩⟩)]

variable [FloatOps F]

/-- What a task holds of the call's arrays, named by its coordinates. -/
abbrev heldL (B : Plan F) (O : S131072x2x128.Idx → Elt F .f32) (q : PosShare TreeShare) : sProp 𝕄 :=
  iprop(xPts d L q (B.X d) ∗ iPts d L q (B.I d) ∗ oPts d L (InTable (row (B.I d) L)) O)

theorem tile_body (B : Plan F) (q : PosShare TreeShare) (hF : (K (F := F)).Facts) (O : CellTallies nD τ sig (HIx 1)) (W : Waits sig (HIx 1)) (hO : ∀ g, O g none = 0) :
    iprop(levAts (K (F := F)).L (K (F := F)).lev ∗ emp ∗ heldL d L B (B.O₀ d) q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_body L xV (Memref.isWhole_whole _) iV (Memref.isWhole_whole _) oV (Memref.isWhole_whole _)
            sV (Memref.isWhole_whole _) aV (Memref.isWhole_whole _) bV (Memref.isWhole_whole _) cc2_scratch3 cc2_scratch4 cc2_scratch5 cc2_scoped0)
          fun _ => iprop(heldL d L B (B.G d) q
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨Hlv, -, ⟨Hx, Hi, Ho⟩, ⟨⟨%fs, Hs⟩, ⟨%fa, Ha⟩, ⟨%fb, Hb⟩, Hbufs⟩, ⟨HA, HB, HC, HD, Hsems⟩, HO⟩
  ihave Hw := (tile_run d L (B.X d) (B.I d) (B.O₀ d) (B.G d) q q (row (B.I d) L) rfl (goodTable_row (B.good d) L) (B.placed d L) fs fa fb O W hO) $$ [Hlv Hx Hi Ho Hs Ha Hb HA HB HC HD HO]
  · isplitl [Hlv]; · iexact Hlv
    isplitl [Hx]; · iexact Hx
    isplitl [Hi]; · iexact Hi
    isplitl [Ho]; · iexact Ho
    isplitl [Hs]; · iexact Hs
    isplitl [Ha]; · iexact Ha
    isplitl [Hb]; · iexact Hb
    isplitl [HA]; · iexact HA
    isplitl [HB]; · iexact HB
    isplitl [HC]; · iexact HC
    isplitl [HD]; · iexact HD
    iexact HO
  iapply (wp_wand frame _ _) $$ Hw
  iintro %_ ⟨Hx, Hi, Ho, Hs, Ha, Hb, HA, HB, HC, HD, HO⟩
  isplitl [Hx Hi Ho]
  · isplitl [Hx]; · iexact Hx
    isplitl [Hi]; · iexact Hi
    iexact Ho
  isplitl [Hs Ha Hb Hbufs]
  · isplitl [Hs]; · iexact Hs
    isplitl [Ha]; · iexact Ha
    isplitl [Hb]; · iexact Hb
    iexact Hbufs
  isplitl [HA HB HC HD Hsems]
  · isplitl [HA]; · iexact HA
    isplitl [HB]; · iexact HB
    isplitl [HC]; · iexact HC
    isplitl [HD]; · iexact HD
    iexact Hsems
  iexact HO

/-! ## The obligation -/

theorem defs₀_vector (c : Fin τ.nSC) (s : Fin τ.nSub) :
    defs₀ (F := F) (.scVector c s) 2 ()
      = SparseCore.onTile hcore2 hsub2 (fun c s => cc2_body (coords c s)
          xV (Memref.isWhole_whole _) iV (Memref.isWhole_whole _) oV (Memref.isWhole_whole _)
          sV (Memref.isWhole_whole _) aV (Memref.isWhole_whole _) bV (Memref.isWhole_whole _) cc2_scratch3 cc2_scratch4 cc2_scratch5 cc2_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (B : Plan F) (hF : (K (F := F)).Facts) : (K (F := F)).TileObl (D (F := F)) 𝒱 (P B) v₀ 0 := by
  intro d c i O W hO _ _
  simp only [show (P B).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coords ⟨_, hci.1⟩ ⟨_, hci.2⟩) B _ hF O W hO).trans (wp_mono frame _ _ fun _ => obl_post)

end Task

end Cert.Proof

end
-- ==== Proof.Region.lean ====
/-
  A TensorCore call of the program, run before the SparseCore call: the core holds every array at known contents and
  already owes the SparseCores their start, and it holds them afterwards with the call's result written.
-/
module

public import proofs.«01_k».proof.Proof.Launch
public import Idealize.ShloMosaic.Lib.Pipeline.RegionArraysS

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- No call takes a table: the one choice of none. -/
abbrev adm : (p : Fin 2) → (pcfgs (F := F) p).Adm := fun p => (cfgs p).toPCfg_adm

/-- The waits a core may have recorded before the SparseCore call. -/
def low (c : Dev nD) : Set (SemLoc sig × HIx 1) := {p | (K (F := F)).lev ((c.tc : Thread nD τ), p.1) p.2 ≤ 0}

/-- What a core owes before the SparseCore call. -/
abbrev owing (c : Dev nD) : sProp 𝕄 :=
  iprop(∃ Wd, ⌜(K (F := F)).WBelow (SparseCore.T c) Wd 0⌝ ∗ owes (SparseCore.T c : Thread nD τ) ((K (F := F)).Otc c 0) Wd)

/-- The arrays of core `c`, held at `V`. -/
abbrev arrays (c : Dev nD) (V : Valuation τ sig (Elt F)) : sProp 𝕄 := StableHlo.held (c.tc : Thread nD τ) (Pipeline.ucRefs τ sig) V

variable (pdats : (p : Fin 2) → (c : Dev nD) → Pipeline.Dat τ (Elt F) (HIx 1) ℕ UU ℕ (Pipeline.pin (pcfgs (F := F)) adm p) c) (p : Fin 2)

/-- What a call's proof data say that is the same for both: they enter with the arrays at `V`, owe what the core owes,
    hold every array whole, and keep between points the scoped buffers the call does not use. -/
structure Plain (V : Dev nD → Valuation τ sig (Elt F)) : Prop where
  kit : Pipeline.LaunchFacts (nD := nD) (τ := τ) cfgs p
  body : ∀ c, Pipeline.BodyObligationLoose (pdats p c) (defs₀ (F := F)) 𝒱₀ none Set.univ
  owed : ∀ c t, (pdats p c).owed t = (K (F := F)).Otc c 0
  low : ∀ c t, (pdats p c).recorded t = low (F := F) c
  share : ∀ c w, (pdats p c).share w = fullShare
  inv : ∀ c t, (pdats p c).Φ t = Pipeline.scopedRest (Pipeline.pin (pcfgs (F := F)) adm p).spec c
  entry : ∀ c w, (pdats p c).arrAt w 0 = V c (Proc.devRef .tc (Pipeline.arrRef (Pipeline.pin (pcfgs (F := F)) adm p).spec w))

/-- What the core has recorded stays low through a call: the call's own waits are at level zero. -/
theorem low_of_bound (hp : ∀ c t, (pdats p c).recorded t = low (F := F) c) (c : Dev nD) (t) (Wd : Waits sig (HIx 1))
    (h : (Wd : Set (SemLoc sig × HIx 1)) ⊆ (pdats p c).bound none t) : (K (F := F)).WBelow (SparseCore.T c) Wd 0 := by
  intro q hq
  rcases h hq with h | ⟨w, s, rfl⟩
  · rw [hp] at h; exact h
  · exact le_of_eq rfl

set_option backward.isDefEq.respectTransparency.types false in
/-- The call as a stretch of the program over the arrays. -/
def region {V : Dev nD → Valuation τ sig (Elt F)} (h : Plain pdats p V) :
    Pipeline.RegionSeg (pcfgs (F := F)) adm pdats none (defs₀ (F := F)) 𝒱₀ (K (F := F)).L (K (F := F)).lev p where
  win := h.kit.win.to₀
  block_pos := h.kit.block_pos
  stage_whole := h.kit.stage_whole
  K := PEmpty
  osem k := k.elim
  ho := Pipeline.OwnSemFacts.none _
  hbody := h.body
  hwaits c := Pipeline.cellsWaits_of_cut (Pipeline.pin (pcfgs (F := F)) adm) pdats none p c 0 ((K (F := F)).Otc c 0) (h.owed c)
    (fun _ _ => Finset.mem_univ _) (fun _ _ => le_rfl)
    (fun g i hg => ⟨Finset.mem_univ _, lt_of_lt_of_le (Nat.succ_pos _) (SparseCore.Cfg.lev_of_Otc_pos hg)⟩)
  pre c := iprop(arrays c (V c) ∗ owing c)
  post c := iprop(arrays c (Pipeline.afterRegion (pdats p c) (V c)) ∗ owing c)
  X _ := BI.emp
  Y _ := BI.emp
  Z c := StableHlo.held (c.tc : Thread nD τ) (Pipeline.ucRefs τ sig \ Pipeline.arrRefs (pcfgs (F := F) p).spec) (V c)
  hentry c := by
    rw [Pipeline.ownSems0_none, Pipeline.prefHeld_of_none _ rfl]
    unfold arrays
    rw [StableHlo.held_sub_split (c.tc : Thread nD τ) (Pipeline.arrRefs_sub_ucRefs _ h.kit.win.arr_unscoped) (V c)]
    rw [Pipeline.arrays_held (pcfgs (F := F)) adm pdats p h.kit.toP c (h.share c) ((pdats p c).arrAt · 0) (V c) (h.entry c)]
    iintro ⟨⟨⟨Ha, Hu⟩, %Wd, %hW, HO⟩, -, -⟩
    imodintro
    isplitl [Ha]; · iexact Ha
    isplitr; · iempintro
    isplitl [HO]
    · unfold Pipeline.Dat.owesAt Pipeline.owesWithin Pipeline.Dat.bound
      rw [h.owed c 0, h.low c 0]
      iexists Wd
      isplitr; · ipureintro; exact fun q hq => Or.inl (hW q hq)
      iexact HO
    isplitr; · iempintro
    iexact Hu
  hin c := by
    rw [h.inv]
    iintro ⟨-, -, Hr⟩; iexact Hr
  hout c := by
    rw [Pipeline.ownSems0_none, h.inv]
    iintro Hr
    isplitr; · iempintro
    isplitr; · iempintro
    iexact Hr
  hexit c := by
    rw [Pipeline.arrays_held (pcfgs (F := F)) adm pdats p h.kit.toP c (h.share c) ((pdats p c).arrAt · (Pipeline.pin (pcfgs (F := F)) adm p).N)
      (Pipeline.afterRegion (pdats p c) (V c)) (fun w => (Pipeline.afterRegion_arr (pdats p c) (V c) h.kit.win.arr_inj w).symm)]
    unfold arrays
    rw [StableHlo.held_sub_split (c.tc : Thread nD τ) (Pipeline.arrRefs_sub_ucRefs _ h.kit.win.arr_unscoped) (Pipeline.afterRegion (pdats p c) (V c)),
      StableHlo.held_congr (c.tc : Thread nD τ) (S := Pipeline.ucRefs τ sig \ Pipeline.arrRefs (pcfgs (F := F) p).spec)
        (V := Pipeline.afterRegion (pdats p c) (V c)) (V' := V c) (Pipeline.afterRegion_off (pdats p c) (V c) (Pipeline.ucRefs τ sig))]
    unfold Pipeline.Dat.owesAt Pipeline.owesWithin
    rw [h.owed c (Fin.last _)]
    iintro ⟨Ha, ⟨%Wd, %hW, HO⟩, -, Hu⟩
    imodintro
    isplitl [Ha Hu]
    · isplitl [Ha]; · iexact Ha
      iexact Hu
    iexists Wd
    isplitr; · ipureintro; exact low_of_bound pdats p h.low c _ Wd hW
    iexact HO

/-- The call's own share of the pipelines' rounds. -/
abbrev ghost (p : Fin 2) (c : Dev nD) : sProp 𝕄 :=
  iprop(Pipeline.cellsGhost (Pipeline.pin (pcfgs (F := F)) adm) EP p c ∗ Pipeline.toksInit (Pipeline.pin (pcfgs (F := F)) adm) EP p c)

theorem pin_inj : Function.Injective (Pipeline.cellOf (nD := nD) (τ := τ) (Pipeline.pin (pcfgs (F := F)) adm)) := cellOf_inj

/-- The call as the whole program makes it. -/
theorem call_run [∀ e, Nonempty (Elt F e)] {V : Dev nD → Valuation τ sig (Elt F)} (h : Plain pdats p V) (c : Dev nD) :
    iprop(boundary (SparseCore.T c) ∗ (arrays c (V c) ∗ owing c) ∗ levAts (K (F := F)).L (K (F := F)).lev ∗ ghost p c)
      ⊢ wp frame (wpE ((K (F := F)).defs D) 𝒱 (SparseCore.T c) none) Set.univ
          (Prog.lift (.customCall (SparseCore.inner (Pipeline.entry p)) ()))
          fun _ => iprop(boundary (SparseCore.T c) ∗ arrays c (Pipeline.afterRegion (pdats p c) (V c)) ∗ owing c) := by
  refine BIBase.Entails.trans ?_ ((K (F := F)).wp_liftProg D 𝒱 (SparseCore.T c) Set.univ none (.op (.customCall (Pipeline.entry p) ()) .ret) _)
  refine BIBase.Entails.trans ?_ (Pipeline.RegionSeg.wp (pcfgs (F := F)) adm pdats none pin_inj EP (defs₀ (F := F)) 𝒱₀ (K (F := F)).L (K (F := F)).lev
    (region pdats p h) c none (fun _ hu => nomatch hu) _ _)
  rw [show (region pdats p h).pre c = iprop(arrays c (V c) ∗ owing c) from rfl,
    show (region pdats p h).post c = iprop(arrays c (Pipeline.afterRegion (pdats p c) (V c)) ∗ owing c) from rfl]
  iintro ⟨Hb, HV, HL, Hg, Ht⟩
  isplitr
  · iintro ⟨Hb, HV⟩
    rw [wp_ret]
    imodintro
    isplitl [Hb]; · iexact Hb
    iexact HV
  isplitl [Hb]; · iexact Hb
  isplitl [HV]; · iexact HV
  isplitl [HL]; · iexact HL
  isplitl [Hg]; · iexact Hg
  iexact Ht

end Cert.Proof

end
-- ==== Proof.LabelsRun.lean ====
/-
  The bucket kernel's body, run once: it reads a block of rows and the projection, and stores the rows' buckets.
-/
module

public import proofs.«01_k».proof.Proof.Launch
public import Idealize.ShloMosaic.Lib.VecWindow

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A memref's buffer on core `c`, held whole at `f`. -/
abbrev pt (c : Dev nD) {sp : Space} {S : Shape} {e : EltTy} (M : Memref sig .tc sp S e) (f : Buf (Elt F) (M.view.loc (c.tc : Thread nD τ))) : sProp 𝕄 :=
  M.view.loc (c.tc : Thread nD τ) ↦[M.view.set]{fullShare} f

/-- A store over the whole extent leaves what it stored. -/
theorem read_stored_full {sp : Space} {S : Shape} {e : EltTy} (v : View sig .tc sp S e) (f : v.ty.Contents (Elt F)) (off : Fin S.rank → ℕ)
    (inb : ∀ a, off a + S.size a ≤ S.size a) (w : S.Idx → Elt F e) :
    v.read (Elt F) (v.writes (Elt F) f [⟨Rect.unit off S.size inb, w⟩]) = w := by
  funext y
  refine View.read_writes_cons_hit_of_coords v f (Rect.unit off S.size inb) w [] y y fun a => ?_
  have := inb a
  show (y a).val = off a + 1 * (y a).val
  omega

/-- From a block of rows, the projection and room for the result, the body leaves the block's buckets in the result. -/
theorem labels_run (c : Dev nD) (i : grid0.Coords) (M0 : Memref sig .tc .vmem S512x4096 .f32) (h0 : M0.IsWhole)
    (M1 : Memref sig .tc .vmem S4096x64 .f32) (h1 : M1.IsWhole) (M2 : Memref sig .tc .vmem S512x1 .i32) (h2 : M2.IsWhole)
    (f0 : Buf (Elt F) (M0.view.loc (c.tc : Thread nD τ))) (f1 : Buf (Elt F) (M1.view.loc (c.tc : Thread nD τ))) (f2 : Buf (Elt F) (M2.view.loc (c.tc : Thread nD τ))) :
    iprop(pt c M0 f0 ∗ pt c M1 f1 ∗ pt c M2 f2)
      ⊢ wp frame (wpE (defs₀ (F := F)) 𝒱₀ (c.tc : Thread nD τ) none) Set.univ (cc0__labels_body i M0 h0 M1 h1 M2 h2)
          fun _ => iprop(pt c M0 f0 ∗ pt c M1 f1 ∗ ∃ g, ⌜M2.view.read (Elt F) g = k0_pay1 (M0.view.read (Elt F) f0) (M1.view.read (Elt F) f1)⌝ ∗ pt c M2 g) := by
  iintro ⟨H0, H1, H2⟩
  sl_exec!
  sl_step
  isplitl [H0]; · iexact H0
  isplitl [H1]; · iexact H1
  iexists _
  isplitr
  swap; · iexact H2
  ipureintro
  have e0 : M0.view.readAt (Elt F) (Rect.unit (s := S512x4096) ![0, 0] S512x4096.size inb_S512x4096_S512x4096_0_0).toLoadRect f0 = M0.view.read (Elt F) f0 :=
    View.readAt_full M0.view f0 _
  have e1 : M1.view.readAt (Elt F) (Rect.unit (s := S4096x64) ![0, 0] S4096x64.size inb_S4096x64_S4096x64_0_0).toLoadRect f1 = M1.view.read (Elt F) f1 :=
    View.readAt_full M1.view f1 _
  refine Eq.trans ?_ (congrArg₂ k0_pay1 e0 e1)
  exact read_stored_full M2.view _ _ _ _

end Cert.Proof

end
-- ==== Proof.PosRun.lean ====
/-
  The rank kernel's body, run once: it counts the buckets, then walks the rows again, giving each the number of rows that
  go before it.
-/
module

public import proofs.«01_k».proof.Proof.LabelsRun
public import proofs.«01_k».proof.Proof.Gen.KernelIdeal.Loops

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2)

variable {F : FTy → Type} [FloatOps F]

local notation "𝕄" => MT nD τ sig (HIx 1) (Elt F) ℕ UU ℕ

/-- The `k`-th stretch of 256 rows of a column (row 0 past the end). -/
def chunk (X : S8192x1.Idx → Elt F .i32) (k : ℕ) : Vec F S256x1 .i32 := fun i =>
  if h : 256 * k + (i 0).val < 8192 then X (ix2 ⟨256 * k + (i 0).val, h⟩ (i 1)) else X (ix2 0 (i 1))

/-- `init` and the rows of each bucket among the first `k` stretches, as the counting loop adds them up. -/
def counted (X : S8192x1.Idx → Elt F .i32) (init : FVec F S1x128 .f32) : ℕ → FVec F S1x128 .f32
  | 0 => init
  | k + 1 => k1_pay2 (counted X init k) (chunk X k)

/-- The same, as the ranking loop adds them up. -/
def passed (X : S8192x1.Idx → Elt F .i32) (init : FVec F S1x128 .f32) : ℕ → FVec F S1x128 .f32
  | 0 => init
  | k + 1 => k1_pay6 (passed X init k) (chunk X k)

/-- The rank the ranking loop gives each row, from the counts of all the rows. -/
def ranksFrom (X : S8192x1.Idx → Elt F .i32) (counts init : FVec F S1x128 .f32) : S8192x1.Idx → Elt F .i32 := fun i =>
  k1_pay5 counts (passed X init ((i 0).val / 256)) (chunk X ((i 0).val / 256)) (ix2 ⟨(i 0).val % 256, Nat.mod_lt _ (by decide)⟩ (i 1))

/-- The rank the body gives each row. -/
def ranks (X : S8192x1.Idx → Elt F .i32) : S8192x1.Idx → Elt F .i32 := ranksFrom X (counted X k1_pay1 32) k1_pay3

/-- The first `k` stretches of `r` are the ranks. -/
def Ranked (X : S8192x1.Idx → Elt F .i32) (counts init : FVec F S1x128 .f32) (r : S8192x1.Idx → Elt F .i32) (k : ℕ) : Prop :=
  ∀ i : S8192x1.Idx, (i 0).val < 256 * k → r i = ranksFrom X counts init i

theorem ranked_zero (X : S8192x1.Idx → Elt F .i32) (counts init : FVec F S1x128 .f32) (r : S8192x1.Idx → Elt F .i32) : Ranked X counts init r 0 :=
  fun _ h => absurd h (Nat.not_lt_zero _)

section Loops

variable (c : Dev nD) (M0 : Memref sig .tc .vmem S8192x1 .i32) (h0 : M0.IsWhole) (M1 : Memref sig .tc .vmem S8192x1 .i32) (h1 : M1.IsWhole)

/-- A load of the `k`-th stretch. -/
theorem load_chunk (f : Buf (Elt F) (M0.view.loc (c.tc : Thread nD τ))) (k : ℕ) (hk : k < 32) (off : Fin 2 → ℕ) (ho : off = ![256 * k, 0])
    (hb : ∀ a, off a + S256x1.size a ≤ S8192x1.size a) :
    M0.view.readAt (Elt F) (Rect.unit (s := S8192x1) off S256x1.size hb).toLoadRect f = chunk (M0.view.read (Elt F) f) k := by
  subst ho
  funext i
  unfold chunk
  have hi : (i 0).val < 256 := (i 0).isLt
  rw [dif_pos (by omega)]
  show M0.view.read (Elt F) f _ = M0.view.read (Elt F) f _
  congr 1
  funext a
  apply Fin.ext
  fin_cases a <;> simp

/-- Storing the `k`-th stretch's ranks extends them by a stretch. -/
theorem ranked_succ (X : S8192x1.Idx → Elt F .i32) (counts init : FVec F S1x128 .f32) (g : M1.view.ty.Contents (Elt F)) (k : ℕ) (hk : k < 32)
    (hg : Ranked X counts init (M1.view.read (Elt F) g) k) (off : Fin 2 → ℕ) (ho : off = ![256 * k, 0]) (hb : ∀ a, off a + S256x1.size a ≤ S8192x1.size a) :
    Ranked X counts init (M1.view.read (Elt F) (M1.view.writes (Elt F) g
      [⟨Rect.unit (s := S8192x1) off S256x1.size hb, k1_pay5 counts (passed X init k) (chunk X k)⟩])) (k + 1) := by
  subst ho
  intro i hlt
  by_cases h : (i 0).val < 256 * k
  · rw [← hg i h]
    exact View.read_writes_cons_miss_of_axis M1.view g _ [] i 0 (256 * k) 256 rfl rfl rfl (Or.inl h)
  · have hd : (i 0).val / 256 = k := by omega
    have hm : (i 0).val % 256 = (i 0).val - 256 * k := by omega
    unfold ranksFrom
    rw [hd]
    refine View.read_writes_cons_hit_of_coords M1.view g (Rect.unit (s := S8192x1) ![256 * k, 0] S256x1.size hb) _ []
      (ix2 ⟨(i 0).val % 256, Nat.mod_lt _ (by decide)⟩ (i 1) : S256x1.Idx) i fun a => ?_
    fin_cases a
    · show (i 0).val = 256 * k + 1 * ((i 0).val % 256)
      omega
    · show (i 1).val = 0 + 1 * (i 1).val
      omega

set_option warn.classDefReducibility false in
/-- The counting loop: before trip `k` it carries the counts of the first `k` stretches. -/
@[sl_loop] def countLoop (f0 : Buf (Elt F) (M0.view.loc (c.tc : Thread nD τ))) (init : FVec F S1x128 .f32) :
    LoopInvTy_k1_t1 (F := F) (HIx 1) ℕ UU ℕ 𝒱₀ c none Set.univ M0 h0 M1 h1 init where
  inv k acc := iprop(pt c M0 f0 ∗ ⌜acc = counted (M0.view.read (Elt F) f0) init k⌝)
  step k acc := by
    have hk : k.val < 32 := Nat.lt_of_lt_of_le k.isLt k1_t1_abs.2.1
    unfold k1_t1_body
    iintro ⟨H0, %h⟩
    sl_exec
    sl_step
    isplitl [H0]; · iexact H0
    ipureintro
    rw [h, load_chunk c M0 f0 k.val hk _ (k1_off1_eq k)]
    rfl

set_option warn.classDefReducibility false in
/-- The ranking loop: before trip `k` the first `k` stretches are ranked, and it carries their counts. -/
@[sl_loop] def rankLoop (f0 : Buf (Elt F) (M0.view.loc (c.tc : Thread nD τ))) (v13 : FVec F S1x128 .f32) (init : FVec F S1x128 .f32) :
    LoopInvTy_k1_t2 (F := F) (HIx 1) ℕ UU ℕ 𝒱₀ c none Set.univ M0 h0 M1 h1 v13 init where
  inv k acc := iprop(pt c M0 f0 ∗ (∃ g, pt c M1 g ∗ ⌜Ranked (M0.view.read (Elt F) f0) v13 init (M1.view.read (Elt F) g) k⌝)
    ∗ ⌜acc = passed (M0.view.read (Elt F) f0) init k⌝)
  step k acc := by
    have hk : k.val < 32 := Nat.lt_of_lt_of_le k.isLt k1_t2_abs.2.1
    unfold k1_t2_body
    iintro ⟨H0, ⟨%g, H1, %hg⟩, %h⟩
    sl_exec
    sl_step
    isplitl [H0]; · iexact H0
    isplitl [H1]
    · iexists _; isplitl [H1]; · iexact H1
      ipureintro
      rw [h, load_chunk c M0 f0 k.val hk _ (k1_off2_eq k)]
      exact ranked_succ M1 _ _ _ g k.val hk hg _ (k1_off2_eq k) _
    ipureintro
    rw [h, load_chunk c M0 f0 k.val hk _ (k1_off2_eq k)]
    rfl

end Loops

/-- From the rows' buckets and room for the result, the body leaves the ranks in the result. -/
theorem pos_run (c : Dev nD) (M0 : Memref sig .tc .vmem S8192x1 .i32) (h0 : M0.IsWhole) (M1 : Memref sig .tc .vmem S8192x1 .i32) (h1 : M1.IsWhole)
    (f0 : Buf (Elt F) (M0.view.loc (c.tc : Thread nD τ))) (f1 : Buf (Elt F) (M1.view.loc (c.tc : Thread nD τ))) :
    iprop(pt c M0 f0 ∗ pt c M1 f1)
      ⊢ wp frame (wpE (defs₀ (F := F)) 𝒱₀ (c.tc : Thread nD τ) none) Set.univ (cc1__pos_body M0 h0 M1 h1)
          fun _ => iprop(pt c M0 f0 ∗ ∃ g, ⌜M1.view.read (Elt F) g = ranks (M0.view.read (Elt F) f0)⌝ ∗ pt c M1 g) := by
  have start := ranked_zero (M0.view.read (Elt F) f0) (counted (M0.view.read (Elt F) f0) k1_pay1 k1_t1_loop.trips) k1_pay3 (M1.view.read (Elt F) f1)
  iintro ⟨H0, H1⟩
  sl_exec!
  rw [show Scf.trips k1_t1_loop.lb k1_t1_loop.ub k1_t1_loop.st = 32 by decide] at hL4
  sl_step
  isplitl [H0]; · iexact H0
  iexists gL0
  isplitr
  swap; · iexact H1
  ipureintro
  funext i
  exact hL4 i (i 0).isLt

end Cert.Proof

end
-- ==== Proof.Calls.lean ====
/-
  The two TensorCore calls as the program makes them: the first leaves in its result the labels of each block of 512
  rows, the second the ranks of all the labels.
-/
module

public import proofs.«01_k».proof.Proof.Region
public import proofs.«01_k».proof.Proof.PosRun
public import proofs.«01_k».proof.Proof.Gen.KernelIdeal.Points
public import Idealize.ShloMosaic.Lib.Pipeline.ValueKit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (V : Dev nD → Valuation τ sig (Elt F))

/-- A core's array, as the device names it. -/
abbrev dr (b : Ref sig .tc) : DevRef τ sig := Proc.devRef .tc b

/-! ## What the calls are entered with and leave -/

/-- Rows `512 k …` of the input. -/
def rowsAt (A : FVec F S8192x4096 .f32) (k : ℕ) : FVec F S512x4096 .f32 :=
  fun i => A (ValueIdx.ix2 ⟨(512 * k + (i 0).val) % 8192, Nat.mod_lt _ (by decide)⟩ (i 1))

/-- The label of every row, worked out block by block. -/
def labelsOf (A : FVec F S8192x4096 .f32) (B : FVec F S4096x64 .f32) : Vec F S8192x1 .i32 :=
  fun i => k0_pay1 (rowsAt A ((i 0).val / 512)) B (ValueIdx.ix2 ⟨(i 0).val % 512, Nat.mod_lt _ (by decide)⟩ 0)

/-- The first call's data on one core, entered with the arrays at `V`. -/
def labelsDat (c : Dev nD) : Pipeline.Dat τ (Elt F) (HIx 1) ℕ UU ℕ cfg0 c where
  A w := V c (dr (Pipeline.arrRef spec0 w))
  after w t := match w with
    | ⟨0, _⟩ => rowsAt (V c (dr main_arg0)) t.val
    | ⟨1, _⟩ => V c (dr main_arg1)
    | ⟨2, _⟩ => k0_pay1 (rowsAt (V c (dr main_arg0)) t.val) (V c (dr main_arg1))
  Φ _ := Pipeline.scopedRest (Ix := HIx 1) (Name := ℕ) (U := UU) (Lvl := ℕ) (Val := Elt F) spec0 c
  q _ := fullShare
  owed _ := (K (F := F)).Otc c 0
  recorded _ := low (F := F) c

/-- The second call's. -/
def ranksDat (c : Dev nD) : Pipeline.Dat τ (Elt F) (HIx 1) ℕ UU ℕ cfg1 c where
  A w := V c (dr (Pipeline.arrRef spec1 w))
  after w _ := match w with
    | ⟨0, _⟩ => V c (dr main_v0)
    | ⟨1, _⟩ => ranks (F := F) (V c (dr main_v0))
  Φ _ := Pipeline.scopedRest (Ix := HIx 1) (Name := ℕ) (U := UU) (Lvl := ℕ) (Val := Elt F) spec1 c
  q _ := fullShare
  owed _ := (K (F := F)).Otc c 0
  recorded _ := low (F := F) c

/-- Both calls' data, entered with the arrays at `V`. -/
def callDats : (p : Fin 2) → (c : Dev nD) → Pipeline.Dat τ (Elt F) (HIx 1) ℕ UU ℕ (Pipeline.pin (pcfgs (F := F)) adm p) c
  | ⟨0, _⟩ => fun c => labelsDat V c
  | ⟨1, _⟩ => fun c => ranksDat V c

/-! ## The bodies -/

theorem index0_0 : ∀ t : Fin grid0.N, win0_0.index t 0 = t.val ∧ win0_0.index t 1 = 0 := by decide +kernel
theorem index0_1 : ∀ t : Fin grid0.N, win0_1.index t 0 = 0 ∧ win0_1.index t 1 = 0 := by decide +kernel
theorem index0_2 : ∀ t : Fin grid0.N, win0_2.index t 0 = t.val ∧ win0_2.index t 1 = 0 := by decide +kernel

theorem block0_0 (c : Dev nD) (t : Fin cfg0.N) : (labelsDat V c).blockOf 0 t = rowsAt (V c (dr main_arg0)) t.val := by
  have e := index0_0 t
  funext y
  show V c (dr main_arg0) (((cfg0.win 0).blk t).view.emb y) = V c (dr main_arg0) _
  congr 1
  blk_ext [e.1, e.2]

theorem block0_1 (c : Dev nD) (t : Fin cfg0.N) : (labelsDat V c).blockOf 1 t = V c (dr main_arg1) := by
  have e := index0_1 t
  funext y
  show V c (dr main_arg1) (((cfg0.win 1).blk t).view.emb y) = V c (dr main_arg1) y
  congr 1
  blk_ext [e.1, e.2]

theorem before0_0 (c : Dev nD) (t : Fin cfg0.N) (d) : (labelsDat V c).before 0 t d = rowsAt (V c (dr main_arg0)) t.val := by
  rw [(labelsDat V c).before_in_eq_fetched 0 rfl (fun _ => rfl) (fun _ _ _ => rfl) (fun t => (block0_0 V c t).symm) t d]
  exact block0_0 V c t
theorem before0_1 (c : Dev nD) (t : Fin cfg0.N) (d) : (labelsDat V c).before 1 t d = V c (dr main_arg1) := by
  rw [(labelsDat V c).before_in_eq_fetched 1 rfl (fun _ => rfl) (fun _ _ _ => rfl) (fun t => (block0_1 V c t).symm) t d]
  exact block0_1 V c t

theorem labels_body (c : Dev nD) : Pipeline.BodyObligation (labelsDat V c) (defs₀ (F := F)) 𝒱₀ none Set.univ := fun t => by
  rw [bigSep_W0, bigSep_W0]
  rw [show (labelsDat V c).Φ t.succ = (labelsDat V c).Φ t.castSucc from rfl,
    show (labelsDat V c).owesAt none t.succ = (labelsDat V c).owesAt none t.castSucc from rfl]
  unfold owns
  iintro ⟨HΦ, Ho, ⟨%d0, %f0, %h0, H0⟩, ⟨%d1, %f1, %h1, H1⟩, ⟨%d2, %f2, -, H2⟩⟩
  rw [before0_0] at h0
  rw [before0_1] at h1
  ihave Hw := (labels_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) f0 f1 f2) $$ [H0 H1 H2]
  · isplitl [H0]; · iexact H0
    isplitl [H1]; · iexact H1
    iexact H2
  iapply (wp_wand frame _ _) $$ Hw
  iintro %_ ⟨H0, H1, %g, %hg, H2⟩
  isplitl [HΦ]; · iexact HΦ
  isplitl [Ho]; · iexact Ho
  isplitl [H0]; · iexists _; isplitr; swap; (· iexact H0); ipureintro; exact h0
  isplitl [H1]; · iexists _; isplitr; swap; (· iexact H1); ipureintro; exact h1
  iexists _; isplitr; swap; (· iexact H2); ipureintro
  exact hg.trans (congrArg₂ k0_pay1 h0 h1)

theorem before1_0 (c : Dev nD) (t : Fin cfg1.N) (d) : (ranksDat V c).before 0 t d = V c (dr main_v0) := by
  unfold Pipeline.Dat.before
  rw [if_pos (fetch1_0 t)]
  funext y
  show V c (dr main_v0) (((cfg1.win 0).blk t).view.emb y) = V c (dr main_v0) y
  congr 1
  obtain rfl := fin_N1 t
  have e : win1_0.index t1_0 0 = 0 ∧ win1_0.index t1_0 1 = 0 := by decide +kernel
  blk_ext [e.1, e.2]

theorem ranks_body (c : Dev nD) : Pipeline.BodyObligation (ranksDat V c) (defs₀ (F := F)) 𝒱₀ none Set.univ := fun t => by
  rw [bigSep_W1, bigSep_W1]
  rw [show (ranksDat V c).Φ t.succ = (ranksDat V c).Φ t.castSucc from rfl,
    show (ranksDat V c).owesAt none t.succ = (ranksDat V c).owesAt none t.castSucc from rfl]
  unfold owns
  iintro ⟨HΦ, Ho, ⟨%d0, %f0, %h0, H0⟩, ⟨%d1, %f1, -, H1⟩⟩
  rw [before1_0] at h0
  ihave Hw := (pos_run c (st1_0 t) (hstage1_0 0) (st1_1 t) (hstage1_1 0) f0 f1) $$ [H0 H1]
  · isplitl [H0]; · iexact H0
    iexact H1
  iapply (wp_wand frame _ _) $$ Hw
  iintro %_ ⟨H0, %g, %hg, H1⟩
  isplitl [HΦ]; · iexact HΦ
  isplitl [Ho]; · iexact Ho
  isplitl [H0]; · iexists _; isplitr; swap; (· iexact H0); ipureintro; exact h0
  iexists _; isplitr; swap; (· iexact H1); ipureintro
  exact hg.trans (congrArg ranks h0)

/-! ## The calls over the arrays -/

theorem labels_loose (c : Dev nD) : Pipeline.BodyObligationLoose (labelsDat V c) (defs₀ (F := F)) 𝒱₀ none Set.univ :=
  (labels_body V c).loose

theorem labels_body' (c : Dev nD) : Pipeline.BodyObligationLoose (callDats V 0 c) (defs₀ (F := F)) 𝒱₀ none Set.univ := by
  unfold Pipeline.BodyObligationLoose
  exact labels_loose V c
theorem labels_share (c : Dev nD) (w) : (callDats V 0 c).share w = fullShare := (labelsDat V c).share_full (fun _ => rfl) w
theorem labels_inv (c : Dev nD) (t) : (callDats V 0 c).Φ t = Pipeline.scopedRest (Pipeline.pin (pcfgs (F := F)) adm 0).spec c := rfl
theorem labels_entry (c : Dev nD) (w) :
    (callDats V 0 c).arrAt w 0 = V c (Proc.devRef .tc (Pipeline.arrRef (Pipeline.pin (pcfgs (F := F)) adm 0).spec w)) := rfl

theorem labels_plain : Plain (callDats V) 0 V :=
  Plain.mk launch0 (labels_body' V) (fun _ _ => rfl) (fun _ _ => rfl) (labels_share V) (labels_inv V) (labels_entry V)

theorem ranks_loose (c : Dev nD) : Pipeline.BodyObligationLoose (callDats V 1 c) (defs₀ (F := F)) 𝒱₀ none Set.univ :=
  (ranks_body V c).loose
theorem ranks_share (c : Dev nD) (w) : (callDats V 1 c).share w = fullShare := (ranksDat V c).share_full (fun _ => rfl) w

theorem ranks_plain : Plain (callDats V) 1 V :=
  Plain.mk launch1 (ranks_loose V) (fun _ _ => rfl) (fun _ _ => rfl) (ranks_share V) (fun _ _ => rfl) (fun _ _ => rfl)

/-- The first call's result array. -/
theorem labels_result (c : Dev nD) : (labelsDat V c).arrAt 2 cfg0.N = labelsOf (V c (dr main_arg0)) (V c (dr main_arg1)) := by
  refine (labelsDat V c).arrAt_eq_of_covers 2 _ (by decide +kernel) fun t hf y => ?_
  have e := index0_2 t
  show k0_pay1 (rowsAt (V c (dr main_arg0)) t.val) (V c (dr main_arg1)) _
    = labelsOf (V c (dr main_arg0)) (V c (dr main_arg1)) (((cfg0.win 2).blk t).view.emb y)
  have y0 : (y 0).val < 512 := (y 0).isLt
  have e0 : ((((cfg0.win 2).blk t).view.emb y) 0).val = 512 * t.val + (y 0).val := by
    blk_simp [e.1]; omega
  unfold labelsOf
  rw [show ((((cfg0.win 2).blk t).view.emb y) 0).val / 512 = t.val by omega]
  congr 1
  refine funext (Fin.forall_fin_two.2 ⟨Fin.ext ?_, Fin.ext ?_⟩)
  · show (y 0).val = ((((cfg0.win 2).blk t).view.emb y) 0).val % 512
    omega
  · exact (Nat.lt_one_iff.1 (y 1).isLt : (y 1).val = 0)

/-- The second's. -/
theorem ranks_result (c : Dev nD) : (ranksDat V c).arrAt 1 cfg1.N = ranks (F := F) (V c (dr main_v0)) :=
  (ranksDat V c).arrAt_eq_of_after_last 1 t1_0 (by decide +kernel) _ fun j => rfl

/-- Every array but the call's one result keeps its contents. -/
theorem afterRegion_of_ne {cfg : Pipeline.Cfg sig Λ₀} {c : Dev nD} (dat : Pipeline.Dat τ (Elt F) (HIx 1) ℕ UU ℕ cfg c) (V : Valuation τ sig (Elt F))
    (hinj : Function.Injective (Pipeline.arrRef cfg.spec)) (hA : ∀ w, dat.A w = V (dr (Pipeline.arrRef cfg.spec w))) (o : Fin cfg.W)
    (ho : ∀ w, w ≠ o → (cfg.win w).isOut = false) (b : DevRef τ sig) (hb : b ≠ dr (Pipeline.arrRef cfg.spec o)) :
    Pipeline.afterRegion dat V b = V b := by
  by_cases h : ∃ w, b = dr (Pipeline.arrRef cfg.spec w)
  · obtain ⟨w, rfl⟩ := h
    exact (Pipeline.afterRegion_arr dat V hinj w).trans ((dat.arrAt_in w (ho w fun e => hb (e ▸ rfl)) _).trans (hA w))
  · unfold Pipeline.afterRegion
    exact dif_neg h

/-- The arrays after the first call: its result at the labels. -/
theorem labels_after (c : Dev nD) :
    Pipeline.afterRegion (callDats V 0 c) (V c) = Function.update (V c) (dr main_v0) (labelsOf (V c (dr main_arg0)) (V c (dr main_arg1))) := by
  funext b
  by_cases hb : b = dr main_v0
  · subst hb
    rw [Function.update_self]
    exact (Pipeline.afterRegion_arr (labelsDat V c) (V c) winFacts0.arr_inj 2).trans (labels_result V c)
  · rw [Function.update_of_ne hb]
    exact afterRegion_of_ne (labelsDat V c) (V c) winFacts0.arr_inj (fun _ => rfl) 2 (by decide) b hb

/-- The arrays after the second: its result at the ranks of the first's. -/
theorem ranks_after (c : Dev nD) :
    Pipeline.afterRegion (callDats V 1 c) (V c) = Function.update (V c) (dr main_v1) (ranks (F := F) (V c (dr main_v0))) := by
  funext b
  by_cases hb : b = dr main_v1
  · subst hb
    rw [Function.update_self]
    exact (Pipeline.afterRegion_arr (ranksDat V c) (V c) winFacts1.arr_inj 1).trans (ranks_result V c)
  · rw [Function.update_of_ne hb]
    exact afterRegion_of_ne (ranksDat V c) (V c) winFacts1.arr_inj (fun _ => rfl) 1 (by decide) b hb

end Cert.Proof

end
-- ==== Proof.MainRun.lean ====
/-
  The program on a device's TensorCore: the two calls, the operations that spread the ranks over strips, the SparseCore
  call, and the last reshape; what every array holds at the end.
-/
module

public import proofs.«01_k».proof.Proof.Calls

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The operations between the calls -/

/-- The operations before the SparseCore call. -/
def spreadOps : List (HloOp τ sig (Elt F)) :=
  [StableHlo.nullary main_c (constantI S_ 32 16#32),
   StableHlo.unary main_c main_v2 (broadcastInDim S8192x1 ![] bcast_S_S8192x1 : (⟨S_, .i32⟩ : BufTy).Contents (Elt F) → (⟨S8192x1, .i32⟩ : BufTy).Contents (Elt F)),
   StableHlo.binary main_v1 main_v2 main_v3 (muli : (⟨S8192x1, .i32⟩ : BufTy).Contents (Elt F) → (⟨S8192x1, .i32⟩ : BufTy).Contents (Elt F) → (⟨S8192x1, .i32⟩ : BufTy).Contents (Elt F)),
   StableHlo.nullary main_v4 (iotaInDim S16 32 0),
   StableHlo.unary main_v4 main_v5 (broadcastInDim S1x16 ![1] bcast_S16_S1x16_1 : (⟨S16, .i32⟩ : BufTy).Contents (Elt F) → (⟨S1x16, .i32⟩ : BufTy).Contents (Elt F)),
   StableHlo.unary main_v3 main_v6 (broadcastInDim S8192x16 ![0, 1] bcast_S8192x1_S8192x16_0_1 : (⟨S8192x1, .i32⟩ : BufTy).Contents (Elt F) → (⟨S8192x16, .i32⟩ : BufTy).Contents (Elt F)),
   StableHlo.unary main_v5 main_v7 (broadcastInDim S8192x16 ![0, 1] bcast_S1x16_S8192x16_0_1 : (⟨S1x16, .i32⟩ : BufTy).Contents (Elt F) → (⟨S8192x16, .i32⟩ : BufTy).Contents (Elt F)),
   StableHlo.binary main_v6 main_v7 main_v8 (addi : (⟨S8192x16, .i32⟩ : BufTy).Contents (Elt F) → (⟨S8192x16, .i32⟩ : BufTy).Contents (Elt F) → (⟨S8192x16, .i32⟩ : BufTy).Contents (Elt F)),
   StableHlo.reshape main_v8 main_v9 (rfl : (.i32 : EltTy) = .i32) shapeCasts_S8192x16_S32x32x128,
   StableHlo.reshape main_arg0 main_v10 (rfl : (.f32 : EltTy) = .f32) shapeCasts_S8192x4096_S131072x2x128]

/-- The operation after it. -/
def lastOps : List (HloOp τ sig (Elt F)) :=
  [StableHlo.reshape main_v11 main_v12 (rfl : (.f32 : EltTy) = .f32) shapeCasts_S131072x2x128_S8192x4096]

theorem main_eq (d : Dev nD) :
    main (F := F) d = (Prog.lift (.customCall (SparseCore.inner (Pipeline.entry 0)) ()) >>= fun _ =>
      Prog.lift (.customCall (SparseCore.inner (Pipeline.entry 1)) ()) >>= fun _ =>
      StableHlo.seq spreadOps >>= fun _ => sc.run d 0 >>= fun _ => StableHlo.seq lastOps >>= fun _ => pure ⟨⟩) := rfl

theorem spread_sub : ∀ op ∈ spreadOps (F := F), op.bufs ⊆ Pipeline.ucRefs τ sig := by
  intro op h
  simp only [spreadOps, List.mem_cons, List.not_mem_nil, or_false] at h
  rcases h with rfl | rfl | rfl | rfl | rfl | rfl | rfl | rfl | rfl | rfl <;> exact Pipeline.sub_ucRefs _ (by simp)
theorem spread_fresh : ∀ op ∈ spreadOps (F := F), op.fresh = ∅ := by
  intro op h
  simp only [spreadOps, List.mem_cons, List.not_mem_nil, or_false] at h
  rcases h with rfl | rfl | rfl | rfl | rfl | rfl | rfl | rfl | rfl | rfl <;> rfl
theorem last_sub : ∀ op ∈ lastOps (F := F), op.bufs ⊆ Pipeline.ucRefs τ sig := by
  intro op h
  simp only [lastOps, List.mem_cons, List.not_mem_nil, or_false] at h
  subst h; exact Pipeline.sub_ucRefs _ (by simp)
theorem last_fresh : ∀ op ∈ lastOps (F := F), op.fresh = ∅ := by
  intro op h
  simp only [lastOps, List.mem_cons, List.not_mem_nil, or_false] at h
  subst h; rfl

/-! ## What the arrays hold along the way -/

variable (m : (ℓ : Loc nD τ sig) → Buf (Elt F) ℓ)

/-- At the launch. -/
def atLaunch (d : Dev nD) : Valuation τ sig (Elt F) := fun b => m (d, b)
/-- After the first call. -/
def labelled (d : Dev nD) : Valuation τ sig (Elt F) :=
  Function.update (atLaunch m d) (dr main_v0) (labelsOf (atLaunch m d (dr main_arg0)) (atLaunch m d (dr main_arg1)))
/-- After the second. -/
def ranked (d : Dev nD) : Valuation τ sig (Elt F) :=
  Function.update (labelled m d) (dr main_v1) (ranks (F := F) (labelled m d (dr main_v0)))
/-- Before the SparseCore call. -/
def spread (d : Dev nD) : Valuation τ sig (Elt F) := StableHlo.after spreadOps (ranked m d)

/-- The plan's arrays are the ones the program reaches the SparseCore call with. -/
structure Fits (B : Plan F) : Prop where
  X : ∀ d, B.X d = spread m d (dr main_v10)
  I : ∀ d, B.I d = spread m d (dr main_v9)
  O₀ : ∀ d, B.O₀ d = spread m d (dr main_v11)

variable (B : Plan F)

/-- After the SparseCore call. -/
def scattered (d : Dev nD) : Valuation τ sig (Elt F) := Function.update (spread m d) (dr main_v11) (B.G d)
/-- At the end. -/
def atEnd (d : Dev nD) : Valuation τ sig (Elt F) := StableHlo.after lastOps (scattered m B d)

/-! ## The SparseCore call's arrays among the device's -/

abbrev callRefs : Finset (DevRef τ sig) := {dr main_v10, dr main_v9, dr main_v11}

theorem callRefs_sub : callRefs ⊆ Pipeline.ucRefs τ sig := by decide +kernel

theorem held_call (d : Dev nD) (V : Valuation τ sig (Elt F)) :
    (StableHlo.held (SparseCore.T d : Thread nD τ) callRefs V : sProp 𝕄)
      = iprop((xLoc d ↦{fullShare} V (dr main_v10)) ∗ (iLoc d ↦{fullShare} V (dr main_v9)) ∗ oLoc d ↦{fullShare} V (dr main_v11)) := by
  unfold StableHlo.held callRefs
  rw [SparseCore.bigSep_insert' (by decide), SparseCore.bigSep_insert' (by decide), bigSep_singleton]

theorem arrays_split (d : Dev nD) (V : Valuation τ sig (Elt F)) :
    (arrays d V : sProp 𝕄) = iprop(((xLoc d ↦{fullShare} V (dr main_v10)) ∗ (iLoc d ↦{fullShare} V (dr main_v9)) ∗ oLoc d ↦{fullShare} V (dr main_v11))
      ∗ StableHlo.held (SparseCore.T d : Thread nD τ) (Pipeline.ucRefs τ sig \ callRefs) V) := by
  rw [← held_call]
  exact StableHlo.held_sub_split (c := SparseCore.T d) callRefs_sub V

/-- The arrays after the call: the call's own with its result at `B.G`, the others as they were. -/
theorem arrays_scattered (d : Dev nD) (h : Fits m B) :
    (arrays d (scattered m B d) : sProp 𝕄)
      = iprop(((xLoc d ↦{fullShare} B.X d) ∗ (iLoc d ↦{fullShare} B.I d) ∗ oLoc d ↦{fullShare} B.G d)
        ∗ StableHlo.held (SparseCore.T d : Thread nD τ) (Pipeline.ucRefs τ sig \ callRefs) (spread m d)) := by
  rw [arrays_split, h.X, h.I]
  unfold scattered
  rw [Function.update_self, Function.update_of_ne (show dr main_v10 ≠ dr main_v11 by decide), Function.update_of_ne (show dr main_v9 ≠ dr main_v11 by decide)]
  rw [StableHlo.held_congr (SparseCore.T d : Thread nD τ) (S := Pipeline.ucRefs τ sig \ callRefs) (V' := spread m d) fun b hb =>
    Function.update_of_ne (fun e : b = dr main_v11 => (Finset.mem_sdiff.mp hb).2 (by rw [e]; decide)) _ _]

/-- The whole arrays are the tasks' shares of them. -/
theorem dealt (d : Dev nD) (O : S131072x2x128.Idx → Elt F .f32) :
    (iprop((xLoc d ↦{fullShare} B.X d) ∗ (iLoc d ↦{fullShare} B.I d) ∗ oLoc d ↦{fullShare} O) : sProp 𝕄)
      = bigSep Finset.univ fun c : Fin 2 => bigSep Finset.univ fun s : Fin 16 => held B d O c s := by
  refine Eq.trans (congrArg₂ BIBase.sep (operand_dealt (ℓ := xLoc d) (B.X d))
    (congrArg₂ BIBase.sep (operand_dealt (ℓ := iLoc d) (B.I d)) (result_dealt d (B.good d) O))) ?_
  simp only [← bigSep_sep']

/-! ## The run -/

/-- The program's own shares of the pipelines' rounds. -/
abbrev ghosts (d : Dev nD) : sProp 𝕄 := iprop(ghost 0 d ∗ ghost 1 d)

/-- What a device's TensorCore holds of the SparseCore call's protocol beside what it owes. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

variable (ρ : Dev nD → PrngReg)

theorem main_run [∀ e, Nonempty (Elt F e)] (h : Fits m B) (κ : GSem nD τ sig → ℕ) (d : Dev nD) :
    iprop((K (F := F)).ctx EH (P B) κ ∗ (K (F := F)).tcSt EH d 0 ∗ (K (F := F)).tcRes m ρ d ∗ ghosts d)
      ⊢ wp frame (wpE ((K (F := F)).defs D) 𝒱 (SparseCore.T d) none) Set.univ (main d)
          fun _ => iprop((K (F := F)).tcSt EH d 1 ∗ arrays d (atEnd m B d) ∗ (K (F := F)).tcEnd d) := by
  unfold SparseCore.Cfg.tcRes SparseCore.Cfg.tcEnd
  rw [show (unscopedBufs d (fun b => m ((SparseCore.T d).loc b)) : sProp 𝕄) = arrays d (atLaunch m d) from
    Pipeline.unscopedBufs_held d (atLaunch m d)]
  rw [main_eq, wp_bind]
  iintro ⟨#Hctx, Hst, ⟨Hb, Hheld, Hts, -⟩, Hg0, Hg1⟩
  ihave #Hlev := (SparseCore.Cfg.ctx_levAts κ) $$ Hctx
  ihave Hst' := (Entails.of_eq (show (K (F := F)).tcSt EH d 0 = iprop(owing d ∗ tcRest d) from rfl)) $$ Hst
  icases Hst' with ⟨Ho, Hr⟩
  -- the first call
  ihave Hw := (call_run (callDats fun d => atLaunch m d) 0 (labels_plain _) d) $$ [Hb Hheld Ho Hg0]
  · isplitl [Hb]; · iexact Hb
    isplitl [Hheld Ho]
    · isplitl [Hheld]; · iexact Hheld
      iexact Ho
    isplitr; · iexact Hlev
    iexact Hg0
  iapply (wp_wand frame _ _) $$ Hw
  iintro %_ ⟨Hb, Hheld, Ho⟩
  rw [labels_after, ← labelled, wp_bind]
  -- the second
  ihave Hw := (call_run (callDats fun d => labelled m d) 1 (ranks_plain _) d) $$ [Hb Hheld Ho Hg1]
  · isplitl [Hb]; · iexact Hb
    isplitl [Hheld Ho]
    · isplitl [Hheld]; · iexact Hheld
      iexact Ho
    isplitr; · iexact Hlev
    iexact Hg1
  iapply (wp_wand frame _ _) $$ Hw
  iintro %_ ⟨Hb, Hheld, Ho⟩
  rw [ranks_after, ← ranked]
  -- the operations
  iapply (StableHlo.wp_seq 𝒱 none Set.univ d (Pipeline.ucRefs τ sig) _ spreadOps spread_sub spread_fresh (ranked m d)) $$ [Hb Hheld]
  · isplitl [Hb] <;> iassumption
  iintro ⟨Hb, Hheld⟩
  rw [← spread, wp_bind]
  -- the SparseCore call
  ihave Hall := (Entails.of_eq (arrays_split d (spread m d))) $$ Hheld
  rw [← h.X d, ← h.I d, ← h.O₀ d, dealt]
  icases Hall with ⟨Hcall, Hoff⟩
  ihave Hst := (Entails.of_eq (show iprop(owing d ∗ tcRest d) = (K (F := F)).tcSt EH d 0 from rfl)) $$ [Ho Hr]
  · isplitl [Ho] <;> iassumption
  iapply ((K (F := F)).wp_run D 𝒱 (EH := EH) (P := P B) κ d 0) $$ [Hst Hcall Hb Hoff Hts]
  isplitr; · iexact Hctx
  isplitl [Hst]; · iexact Hst
  isplitl [Hcall]; · iexact Hcall
  iintro ⟨Hst, Hcall⟩
  ihave Hcall' := (Entails.of_eq (show (bigSep Finset.univ fun c : Fin ((K (F := F)).nCore 0) => (P B).dn 0 d c) = _ from (dealt B d (B.G d)).symm)) $$ Hcall
  ihave Hheld := (Entails.of_eq (arrays_scattered m B d h).symm) $$ [Hcall' Hoff]
  · isplitl [Hcall'] <;> iassumption
  -- the reshape
  iapply (StableHlo.wp_seq 𝒱 none Set.univ d (Pipeline.ucRefs τ sig) _ lastOps last_sub last_fresh (scattered m B d)) $$ [Hb Hheld]
  · isplitl [Hb] <;> iassumption
  iintro ⟨Hb, Hheld⟩
  rw [wp_pure]
  imodintro
  isplitl [Hst]; · iexact Hst
  isplitl [Hheld]; · iexact Hheld
  isplitl [Hb] <;> iassumption

/-! ## The launch's own element -/

/-- The handshakes' rounds, the pipelines', and nothing else. -/
def u₀ : UU :=
  (initOf (K (F := F)).hsCells (K (F := F)).hsToks,
    (initOf (Pipeline.cells (nD := nD) (τ := τ) (Pipeline.pin (pcfgs (F := F)) adm) pin_inj)
      (Pipeline.launchToks (nD := nD) (τ := τ) (Pipeline.pin (pcfgs (F := F)) adm) pin_inj), 1))

theorem ghosts_eq :
    (iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) : sProp 𝕄)
      = bigSep Finset.univ fun d : Dev nD => ghosts d := by
  simp only [← bigSep_sep']
  exact bigSep_congr fun d _ => bigSep_univ_eq_bigSepL [(0 : Fin 2), (1 : Fin 2)] (by decide) (by decide) _

omit [FloatOps F] in
theorem emp_all {I : Type} (s : Finset I) : (bigSep s fun _ => iprop(emp)) = (iprop(emp) : sProp 𝕄) := bigSep_emp_const s

theorem launch_split : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P B).x q thr) := by
  unfold u₀
  iintro Hu
  ihave H := (ownU_pair _ _) $$ Hu
  icases H with ⟨HH, H⟩
  ihave H := (own_pair_emb embR _ _) $$ H
  icases H with ⟨HP, -⟩
  imod (Pipeline.fund_ghost (Pipeline.pin (pcfgs (F := F)) adm) EP pin_inj) $$ HP with ⟨Hc, Ht⟩
  imodintro
  isplitl [HH]; · iexact HH
  isplitl [Hc Ht]
  · rw [← ghosts_eq]
    isplitl [Hc] <;> iassumption
  rw [show (bigSep Finset.univ fun thr : Thread nD τ => bigSep Finset.univ fun q : Fin 1 => (P B).x q thr) = (bigSep Finset.univ fun _ => iprop(emp) : sProp 𝕄) from
    bigSep_congr fun _ _ => bigSep_univ_of_subsingleton (0 : Fin 1), emp_all]
  iempintro

/-! ## What the run leaves in memory -/

/-- The final memory's arrays. -/
def Left (d : Dev nD) (s' : Phys nD τ sig (Elt F)) : Prop := ∀ b ∈ Pipeline.ucRefs τ sig, s'.mem.mem (d, b) = atEnd m B d b

set_option maxRecDepth 16384 in
theorem left_of_held (d : Dev nD) (V : Valuation τ sig (Elt F)) (s' : Phys nD τ sig (Elt F)) (b : DevRef τ sig) (hb : b ∈ Pipeline.ucRefs τ sig) :
    iprop(arrays d V ∗ SI s') ⊢ (⌜s'.mem.mem (d, b) = V b⌝ : sProp 𝕄) := by
  unfold arrays
  rw [StableHlo.held_sub_split (c := (d.tc : Thread nD τ)) (Finset.singleton_subset_iff.mpr hb) V]
  rw [show (StableHlo.held (d.tc : Thread nD τ) {b} V : sProp 𝕄) = ((d, b) ↦{fullShare} V b) from bigSep_singleton]
  iintro ⟨⟨Hb, -⟩, HSI⟩
  ihave H := (SI_pointsTo_agree (st := s') (ℓ := (d, b)) (I := Finset.univ) (q := fullShare) (f := V b)) $$ [HSI Hb]
  · isplitl [HSI] <;> iassumption
  icases H with %h
  ipureintro; exact funext fun i => h i (Finset.mem_univ i)

omit [FloatOps F] in
/-- Facts that hold one by one of what is held hold together. -/
theorem pure_each {R : sProp 𝕄} {φ : DevRef τ sig → Prop} (S : Finset (DevRef τ sig)) (h : ∀ b ∈ S, R ⊢ ⌜φ b⌝) : R ⊢ (⌜∀ b ∈ S, φ b⌝ : sProp 𝕄) :=
  fun x hx b hb => h b hb x hx

theorem left (d : Dev nD) (s' : Phys nD τ sig (Elt F)) : iprop(arrays d (atEnd m B d) ∗ SI s') ⊢ (⌜Left m B d s'⌝ : sProp 𝕄) := by
  unfold Left
  exact pure_each _ fun b hb => left_of_held d _ s' b hb

/-- After the run every array holds what `atEnd` says, and every semaphore reads zero. -/
theorem run [∀ e, Nonempty (Elt F e)] (h : Fits m B) :
    θ_run (Cert.KernelIdeal.defs (F := F)) (Cert.KernelIdeal.threads (F := F)) ⟨m, fun _ => 0, ρ⟩
      fun r => (∀ d : Dev nD, ∀ b ∈ Pipeline.ucRefs τ sig, r.2.mem (d, b) = atEnd m B d b) ∧ r.2.sem = fun _ => 0 :=
  SparseCore.Cfg.θ_run_sc_quiescent (K := K (F := F)) (D := D) (𝒱 := 𝒱) (EH := EH) (P := P B) (A := ∅) facts v₀
    (fun q hq => match q with | 0 => nomatch hq)
    (fun q _ => match q with | 0 => tileObl B facts)
    (fun q _ => match q with | 0 => SparseCore.Cfg.VecSplit.of_plain (vecSplit B))
    m ρ main ghosts (fun d => arrays d (atEnd m B d)) (u₀ (F := F)) (sep_elim_left.trans (launch_split B)) (main_run m B ρ h)
    (Left m B) (left m B) _ (fun _ h hz => ⟨h, hz⟩)

end Cert.Proof

end
-- ==== Proof.FirstMax.lean ====
/-
  The label of a row: the first place of the greatest of the row's values and their negations. Two ways to find it — one
  fold over the values followed by their negations, and the row's maximum and minimum compared — give the same place.
-/
module

public import Idealize.ShloMosaic.PureOps.Ideal
public import Mathlib.Data.EReal.Operations

@[expose] public section

noncomputable section

namespace Cert.Proof

open Idealize.ShloMosaic

/-- `k` is the first place where `y` is greatest. -/
def FirstMax {n : ℕ} (y : Fin n → EReal) (k : ℕ) : Prop :=
  ∃ h : k < n, (∀ j, y j ≤ y ⟨k, h⟩) ∧ ∀ j : Fin n, j.val < k → y j < y ⟨k, h⟩

theorem FirstMax.unique {n : ℕ} {y : Fin n → EReal} {k k' : ℕ} (h : FirstMax y k) (h' : FirstMax y k') : k = k' := by
  obtain ⟨hk, hm, hf⟩ := h
  obtain ⟨hk', hm', hf'⟩ := h'
  rcases lt_trichotomy k k' with hlt | e | hlt
  · exact absurd (hm ⟨k', hk'⟩) (not_le.2 (hf' ⟨k, hk⟩ hlt))
  · exact e
  · exact absurd (hm' ⟨k, hk⟩) (not_le.2 (hf ⟨k', hk'⟩ hlt))

/-- A row followed by its negation. -/
def bothSigns (x : Fin 64 → EReal) : Fin 128 → EReal := fun n => if h : n.val < 64 then x ⟨n.val, h⟩ else -x ⟨n.val - 64, by omega⟩

/-- Where the greatest value is at least the negation of the least, the first place of the greatest value is the label. -/
theorem firstMax_of_max (x : Fin 64 → EReal) (hi lo : EReal) (hlo : ∀ j, lo ≤ x j) (hge : -lo ≤ hi) (hhi : ∀ j, x j ≤ hi)
    (k : ℕ) (hk : k < 64) (hxk : x ⟨k, hk⟩ = hi) (hfirst : ∀ j : Fin 64, j.val < k → x j ≠ hi) : FirstMax (bothSigns x) k := by
  have e : bothSigns x ⟨k, by omega⟩ = hi := by
    unfold bothSigns
    rw [dif_pos (show k < 64 from hk)]
    exact hxk
  refine ⟨by omega, fun j => ?_, fun j hj => ?_⟩
  · rw [e]
    unfold bothSigns
    split
    · exact hhi _
    · exact (EReal.neg_le_neg_iff.2 (hlo _)).trans hge
  · rw [e]
    unfold bothSigns
    rw [dif_pos (show j.val < 64 by omega)]
    exact lt_of_le_of_ne (hhi _) (hfirst _ hj)

/-- Where it is less, the label is 64 places past the first place of the least value. -/
theorem firstMax_of_min (x : Fin 64 → EReal) (hi lo : EReal) (hlo : ∀ j, lo ≤ x j) (hlt : hi < -lo) (hhi : ∀ j, x j ≤ hi)
    (k : ℕ) (hk : k < 64) (hxk : x ⟨k, hk⟩ = lo) (hfirst : ∀ j : Fin 64, j.val < k → x j ≠ lo) : FirstMax (bothSigns x) (64 + k) := by
  have e : bothSigns x ⟨64 + k, by omega⟩ = -lo := by
    unfold bothSigns
    rw [dif_neg (show ¬ 64 + k < 64 by omega), ← hxk]
    congr 2
    exact Fin.ext (by simp)
  refine ⟨by omega, fun j => ?_, fun j hj => ?_⟩
  · rw [e]
    unfold bothSigns
    split
    · exact (hhi _).trans hlt.le
    · exact EReal.neg_le_neg_iff.2 (hlo _)
  · rw [e]
    unfold bothSigns
    split
    · exact (hhi _).trans_lt hlt
    · refine EReal.neg_lt_neg_iff.2 (lt_of_le_of_ne (hlo _) (Ne.symm (hfirst _ ?_)))
      show j.val - 64 < k
      omega

end Cert.Proof

end
-- ==== Proof.LabelsValue.lean ====
/-
  The label kernel's block over the extended reals: each row's label is the first place of the greatest of the row's
  products with the columns and their negations.
-/
module

public import proofs.«01_k».proof.Proof.Gen.KernelIdeal.Skeleton
public import proofs.«01_k».proof.Proof.FirstMax
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.SL.Sem

theorem ofBits_bot : Ideal.ofBits .f32 4286578688#32 = ⊥ := by simp [Ideal.ofBits, Ideal.ieee]
theorem ofBits_top : Ideal.ofBits .f32 2139095040#32 = ⊤ := by simp [Ideal.ofBits, Ideal.ieee]

/-- A fold of signed minima is at most its start and every term, and is one of them. -/
theorem fold_minsi {ι : Type} (f : ι → BitVec 32) (b : BitVec 32) (s : Finset ι) :
    (s.fold IntOp.minsi b f).toInt ≤ b.toInt ∧ (∀ i ∈ s, (s.fold IntOp.minsi b f).toInt ≤ (f i).toInt)
      ∧ (s.fold IntOp.minsi b f = b ∨ ∃ i ∈ s, s.fold IntOp.minsi b f = f i) := by
  classical
  induction s using Finset.induction_on with
  | empty => simp
  | insert a s ha ih =>
    obtain ⟨h₁, h₂, h₃⟩ := ih
    rw [Finset.fold_insert ha]
    generalize s.fold IntOp.minsi b f = r at h₁ h₂ h₃ ⊢
    by_cases h : (f a).toInt < r.toInt
    · rw [show IntOp.minsi (f a) r = f a from if_pos (BitVec.slt_iff_toInt_lt.2 h)]
      refine ⟨h.le.trans h₁, fun i hi => ?_, Or.inr ⟨a, Finset.mem_insert_self _ _, rfl⟩⟩
      rcases Finset.mem_insert.1 hi with rfl | hi
      · exact le_rfl
      · exact h.le.trans (h₂ i hi)
    · rw [show IntOp.minsi (f a) r = r from if_neg fun e => h (BitVec.slt_iff_toInt_lt.1 e)]
      refine ⟨h₁, fun i hi => ?_, h₃.imp id fun ⟨i, hi, e⟩ => ⟨i, Finset.mem_insert_of_mem hi, e⟩⟩
      rcases Finset.mem_insert.1 hi with rfl | hi
      · omega
      · exact h₂ i hi

theorem toInt_place (x : Fin 64) : (BitVec.ofNat 32 x.val).toInt = x.val := by
  have e : (BitVec.ofNat 32 x.val).toNat = x.val := by
    rw [BitVec.toNat_ofNat]
    exact Nat.mod_eq_of_lt (by omega)
  rw [BitVec.toInt_eq_toNat_of_lt (by omega), e]

/-- The least place where `p` holds, as the kernel takes it. -/
theorem fold_first (p : Fin 64 → Prop) [DecidablePred p] (hp : ∃ k, p k) :
    ∃ k : Fin 64, p k ∧ (∀ j : Fin 64, j.val < k.val → ¬ p j)
      ∧ (Finset.univ : Finset (Fin 64)).fold IntOp.minsi 2147483647#32 (fun x => if p x then BitVec.ofNat 32 x.val else 64#32) = BitVec.ofNat 32 k.val := by
  obtain ⟨k₀, hk₀⟩ := hp
  obtain ⟨-, h₂, h₃⟩ := fold_minsi (fun x : Fin 64 => if p x then BitVec.ofNat 32 x.val else 64#32) 2147483647#32 Finset.univ
  generalize (Finset.univ : Finset (Fin 64)).fold IntOp.minsi 2147483647#32 (fun x => if p x then BitVec.ofNat 32 x.val else 64#32) = r at h₂ h₃ ⊢
  have hle : ∀ j : Fin 64, p j → r.toInt ≤ j.val := fun j hj => by
    have := h₂ j (Finset.mem_univ _)
    rwa [if_pos hj, toInt_place] at this
  have h₀ := hle k₀ hk₀
  have hlt := k₀.isLt
  rcases h₃ with rfl | ⟨k, -, rfl⟩
  · exact absurd h₀ (by rw [show (2147483647#32 : BitVec 32).toInt = 2147483647 from rfl]; omega)
  · by_cases hk : p k
    · rw [if_pos hk, toInt_place] at hle
      exact ⟨k, hk, fun j hj hpj => by have := hle j hpj; omega, if_pos hk⟩
    · rw [if_neg hk] at h₀
      exact absurd h₀ (by rw [show (64#32 : BitVec 32).toInt = 64 from rfl]; omega)

/-- The label the kernel finds of a row's values. -/
theorem label_of_row (x : Fin 64 → EReal) :
    ∃ k : ℕ, FirstMax (bothSigns x) k ∧
      (if 0 - Finset.fold min (Ideal.ofBits .f32 2139095040#32) x Finset.univ ≤ Finset.fold max (Ideal.ofBits .f32 4286578688#32) x Finset.univ then
        Finset.fold IntOp.minsi (2147483647#32)
          (fun n => if x n = Finset.fold max (Ideal.ofBits .f32 4286578688#32) x Finset.univ then BitVec.ofNat 32 n.val else 64#32) Finset.univ
      else IntOp.addi (64#32) (Finset.fold IntOp.minsi (2147483647#32)
          (fun n => if x n = Finset.fold min (Ideal.ofBits .f32 2139095040#32) x Finset.univ then BitVec.ofNat 32 n.val else 64#32) Finset.univ))
        = BitVec.ofNat 32 k := by
  have emax : Finset.fold max (Ideal.ofBits .f32 4286578688#32) x Finset.univ = Finset.univ.sup x := by rw [ofBits_bot]; rfl
  have emin : Finset.fold min (Ideal.ofBits .f32 2139095040#32) x Finset.univ = Finset.univ.inf x := by rw [ofBits_top]; rfl
  rw [emax, emin, zero_sub]
  obtain ⟨kM, -, hM⟩ := Finset.exists_mem_eq_sup (Finset.univ : Finset (Fin 64)) ⟨0, Finset.mem_univ _⟩ x
  obtain ⟨km, -, hm⟩ := Finset.exists_mem_eq_inf (Finset.univ : Finset (Fin 64)) ⟨0, Finset.mem_univ _⟩ x
  have hhi : ∀ j, x j ≤ Finset.univ.sup x := fun j => Finset.le_sup (Finset.mem_univ j)
  have hlo : ∀ j, Finset.univ.inf x ≤ x j := fun j => Finset.inf_le (Finset.mem_univ j)
  split
  · rename_i hge
    obtain ⟨k, hk, hf, e⟩ := fold_first (fun n => x n = Finset.univ.sup x) ⟨kM, hM.symm⟩
    exact ⟨k.val, firstMax_of_max x _ _ hlo hge hhi k.val k.isLt hk hf, e⟩
  · rename_i hlt
    obtain ⟨k, hk, hf, e⟩ := fold_first (fun n => x n = Finset.univ.inf x) ⟨km, hm.symm⟩
    refine ⟨64 + k.val, firstMax_of_min x _ _ hlo (not_le.1 hlt) hhi k.val k.isLt hk hf, ?_⟩
    rw [e]
    exact (BitVec.ofNat_add ..).symm

/-- The label of a row's values. -/
def labelOf (x : Fin 64 → EReal) : ℕ := (label_of_row x).choose

theorem labelOf_firstMax (x : Fin 64 → EReal) : FirstMax (bothSigns x) (labelOf x) := (label_of_row x).choose_spec.1

theorem labelOf_lt (x : Fin 64 → EReal) : labelOf x < 128 := (labelOf_firstMax x).1

/-- Row `r`'s products with the columns of `B`. -/
def products {R : ℕ} (A : (⟨2, ![R, 4096]⟩ : Shape).Idx → EReal) (B : (⟨2, ![4096, 64]⟩ : Shape).Idx → EReal) (r : Fin R) (n : Fin 64) : EReal :=
  ∑ k : Fin 4096, A (ix2 r k) * B (ix2 k n)

/-- The label the kernel's block gives row `r`. -/
theorem block_label (A : FVec Ideal S512x4096 .f32) (B : FVec Ideal S4096x64 .f32) (r : Fin 512) :
    k0_pay1 (F := Ideal) A B (ix2 r 0) = BitVec.ofNat 32 (labelOf (products A B r)) := by
  pointwise [k0_pay1]
  exact (label_of_row (products A B r)).choose_spec.2

end Cert.Proof

end
-- ==== Proof.Order.lean ====
/-
  The order a stable sort puts positions in: by label, and among equal labels by position. A position's rank is the number
  of positions before it, and the stable sort's permutation undoes the rank.
-/
module

public import Idealize.ShloMosaic.Lib.SortFacts

@[expose] public section

noncomputable section

namespace Cert.Proof

open Idealize.ShloMosaic

variable {n : ℕ} (lab : Fin n → ℕ)

/-- `j` goes before `i`: its label is less, or the same and `j` is the earlier position. -/
def Before (j i : Fin n) : Prop := lab j < lab i ∨ (lab j = lab i ∧ j < i)

instance (j i : Fin n) : Decidable (Before lab j i) := by unfold Before; infer_instance

theorem before_irrefl (i : Fin n) : ¬ Before lab i i := by
  rintro (h | ⟨-, h⟩)
  · exact lt_irrefl _ h
  · exact lt_irrefl _ h

theorem before_trans {i j k : Fin n} (h : Before lab i j) (h' : Before lab j k) : Before lab i k := by
  unfold Before at *
  omega

theorem before_total {i j : Fin n} (h : i ≠ j) : Before lab i j ∨ Before lab j i := by
  have : i.val ≠ j.val := fun e => h (Fin.ext e)
  unfold Before
  omega

/-- How many positions go before `i`. -/
def rankOf (i : Fin n) : ℕ := (Finset.univ.filter fun j => Before lab j i).card

theorem rankOf_lt (i : Fin n) : rankOf lab i < n := by
  have h : (Finset.univ.filter fun j => Before lab j i) ⊂ Finset.univ := by
    refine Finset.filter_ssubset.2 ⟨i, Finset.mem_univ _, before_irrefl lab i⟩
  have := Finset.card_lt_card h
  rwa [Finset.card_univ, Fintype.card_fin] at this

/-- A position before another has the lesser rank. -/
theorem rankOf_lt_rankOf {i j : Fin n} (h : Before lab i j) : rankOf lab i < rankOf lab j := by
  refine Finset.card_lt_card (Finset.ssubset_iff_of_subset ?_ |>.2 ⟨i, ?_, ?_⟩)
  · intro k hk
    simp only [Finset.mem_filter, Finset.mem_univ, true_and] at hk ⊢
    exact before_trans lab hk h
  · simpa using h
  · simpa using before_irrefl lab i

theorem rankOf_injective : Function.Injective (rankOf lab) := by
  intro i j h
  by_contra hne
  rcases before_total lab hne with h' | h'
  · exact absurd h (Nat.ne_of_lt (rankOf_lt_rankOf lab h'))
  · exact absurd h.symm (Nat.ne_of_lt (rankOf_lt_rankOf lab h'))

/-- Putting an earlier position into a list in order keeps the list in order. -/
theorem insertBefore_inOrder (i : Fin n) (l : List (Fin n)) (hi : ∀ j ∈ l, i < j) (hl : l.Pairwise (Before lab)) :
    (insertBefore (fun a b => decide (lab a < lab b)) i l).Pairwise (Before lab) := by
  induction l with
  | nil => exact List.pairwise_singleton _ _
  | cons b l ih =>
    have hib : i < b := hi b List.mem_cons_self
    unfold insertBefore
    split
    · rename_i hlt
      rw [List.pairwise_cons]
      refine ⟨fun c hc => ?_, ih (fun j hj => hi j (List.mem_cons_of_mem _ hj)) (List.pairwise_cons.1 hl).2⟩
      rcases List.mem_cons.1 ((perm_insertBefore _ i l).mem_iff.1 hc) with rfl | hc
      · exact Or.inl (of_decide_eq_true hlt)
      · exact (List.pairwise_cons.1 hl).1 c hc
    · rename_i hnot
      have hbi : Before lab i b := by
        have : ¬ lab b < lab i := fun h => hnot (decide_eq_true h)
        unfold Before
        omega
      rw [List.pairwise_cons]
      refine ⟨fun c hc => ?_, hl⟩
      rcases List.mem_cons.1 hc with rfl | hc
      · exact hbi
      · exact before_trans lab hbi ((List.pairwise_cons.1 hl).1 c hc)

theorem stableSort_inOrder (l : List (Fin n)) (hl : l.Pairwise (· < ·)) :
    (stableSort (fun a b => decide (lab a < lab b)) l).Pairwise (Before lab) := by
  induction l with
  | nil => exact List.Pairwise.nil
  | cons i l ih =>
    unfold stableSort
    obtain ⟨h₁, h₂⟩ := List.pairwise_cons.1 hl
    exact insertBefore_inOrder lab i _ (fun j hj => h₁ j ((perm_stableSort _ l).mem_iff.1 hj)) (ih h₂)

/-- The position the stable sort by label puts in place `k`. -/
def sorted (k : Fin n) : Fin n := sortedFrom (fun a b => decide (lab a < lab b)) k

theorem sorted_bijective : Function.Bijective (sorted lab) := ⟨sortedFrom_injective _, sortedFrom_surjective _⟩

theorem sorted_inOrder {k k' : Fin n} (h : k < k') : Before lab (sorted lab k) (sorted lab k') :=
  List.pairwise_iff_get.1 (stableSort_inOrder lab (List.finRange n) (List.pairwise_lt_finRange n)) _ _ h

theorem before_sorted_iff (k k' : Fin n) : Before lab (sorted lab k) (sorted lab k') ↔ k < k' := by
  refine ⟨fun h => ?_, sorted_inOrder lab⟩
  rcases lt_trichotomy k k' with h' | rfl | h'
  · exact h'
  · exact absurd h (before_irrefl lab _)
  · exact absurd (before_trans lab h (sorted_inOrder lab h')) (before_irrefl lab _)

/-- The position in place `k` has rank `k`. -/
theorem rankOf_sorted (k : Fin n) : rankOf lab (sorted lab k) = k.val := by
  have h : (Finset.univ.filter fun j => Before lab j (sorted lab k)) = (Finset.Iio k).map ⟨sorted lab, (sorted_bijective lab).1⟩ := by
    ext j
    obtain ⟨k', rfl⟩ := (sorted_bijective lab).2 j
    simp only [Finset.mem_filter, Finset.mem_univ, true_and, Finset.mem_map, Function.Embedding.coeFn_mk, Finset.mem_Iio]
    rw [before_sorted_iff]
    refine ⟨fun h => ⟨k', h, rfl⟩, ?_⟩
    rintro ⟨k'', h, e⟩
    rwa [(sorted_bijective lab).1 e] at h
  rw [rankOf, h, Finset.card_map, Fin.card_Iio]

end Cert.Proof

end
-- ==== Proof.RanksValue.lean ====
/-
  The rank kernel's blocks over the extended reals, at labels below 128: the counting loops count rows, and a row's rank
  is the number of rows that go before it.
-/
module

public import proofs.«01_k».proof.Proof.PosRun
public import proofs.«01_k».proof.Proof.Order
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.SL.Sem

/-- A comparison's bit as the kernel makes a number of it. -/
theorem bit_number (c : Bool) : FloatOps.sitofp (F := Ideal) FTy.f32 (BitVec.setWidth 32 (BitVec.ofBool c)) = ((if c then 1 else 0 : ℕ) : EReal) := by
  have e : ∀ b : BitVec 32, FloatOps.sitofp (F := Ideal) FTy.f32 b = ((b.toInt : ℝ) : EReal) := fun _ => rfl
  cases c <;> simp [e]

/-- Numbers below `2^31` are told apart by their words. -/
theorem word_inj {a b : ℕ} (ha : a < 2 ^ 31) (hb : b < 2 ^ 31) : BitVec.ofNat 32 a = BitVec.ofNat 32 b ↔ a = b := by
  refine ⟨fun h => ?_, fun h => by rw [h]⟩
  have := congrArg BitVec.toNat h
  rwa [BitVec.toNat_ofNat, BitVec.toNat_ofNat, Nat.mod_eq_of_lt (by omega), Nat.mod_eq_of_lt (by omega)] at this

theorem word_lt {a b : ℕ} (ha : a < 2 ^ 31) (hb : b < 2 ^ 31) : (BitVec.ofNat 32 a).slt (BitVec.ofNat 32 b) = decide (a < b) := by
  have e : ∀ {n : ℕ}, n < 2 ^ 31 → (BitVec.ofNat 32 n).toInt = n := fun {n} hn => by
    have : (BitVec.ofNat 32 n).toNat = n := by rw [BitVec.toNat_ofNat]; exact Nat.mod_eq_of_lt (by omega)
    rw [BitVec.toInt_eq_toNat_of_lt (by omega), this]
  rw [BitVec.slt, e ha, e hb]
  simp

theorem eq_number {a b : ℕ} (ha : a < 2 ^ 31) (hb : b < 2 ^ 31) :
    FloatOps.sitofp (F := Ideal) FTy.f32 (BitVec.setWidth 32 (IntOp.cmpi .eq (BitVec.ofNat 32 a) (BitVec.ofNat 32 b))) = ((if a = b then 1 else 0 : ℕ) : EReal) := by
  rw [show IntOp.cmpi .eq (BitVec.ofNat 32 a) (BitVec.ofNat 32 b) = BitVec.ofBool (decide (a = b)) by
    simp only [IntOp.cmpi, beq_eq_decide, word_inj ha hb], bit_number]
  simp

theorem lt_number {a b : ℕ} (ha : a < 2 ^ 31) (hb : b < 2 ^ 31) :
    FloatOps.sitofp (F := Ideal) FTy.f32 (BitVec.setWidth 32 (IntOp.cmpi .slt (BitVec.ofNat 32 a) (BitVec.ofNat 32 b))) = ((if a < b then 1 else 0 : ℕ) : EReal) := by
  rw [show IntOp.cmpi .slt (BitVec.ofNat 32 a) (BitVec.ofNat 32 b) = BitVec.ofBool (decide (a < b)) by
    simp only [IntOp.cmpi, word_lt ha hb], bit_number]
  simp

/-- A count as the kernel makes a word of it. -/
theorem count_word {n : ℕ} (hn : n < 2 ^ 31) : FloatOps.fptosi (F := Ideal) (φ := .f32) 32 ((n : ℕ) : EReal) = BitVec.ofNat 32 n := by
  show Ideal.fptosi 32 ((n : ℕ) : EReal) = _
  rw [show ((n : ℕ) : EReal) = ((n : ℝ) : EReal) from rfl, Ideal.fptosi, Ideal.toIntClamped_coe]
  rw [if_pos (Nat.cast_nonneg n), Int.floor_natCast]
  rw [min_eq_right (by norm_num; omega), max_eq_right (by norm_num)]
  exact BitVec.ofInt_natCast ..

/-- How many of the first `n` places satisfy `p`, summed one by one. -/
theorem sum_count (p : ℕ → Prop) [DecidablePred p] (n : ℕ) : ∑ x : Fin n, (if p x.val then 1 else 0 : ℕ) = Nat.count p n := by
  rw [Fin.sum_univ_eq_sum_range (fun i => if p i then 1 else 0) n, Nat.count_eq_card_filter_range, Finset.card_filter]

/-- A sum over the places below `N` that keeps the terms below `r`. -/
theorem sum_below (f : ℕ → ℕ) {r N : ℕ} (h : r ≤ N) : ∑ x : Fin N, (if x.val < r then f x.val else 0) = ∑ x ∈ Finset.range r, f x := by
  rw [Fin.sum_univ_eq_sum_range (fun i => if i < r then f i else 0) N, ← Finset.sum_filter]
  refine Finset.sum_congr (Finset.ext fun i => ?_) fun _ _ => rfl
  simp only [Finset.mem_filter, Finset.mem_range]
  omega

/-- A trip of the ranking loop counts as a trip of the counting loop does. -/
theorem pay6_eq (acc : FVec Ideal S1x128 .f32) (v20 : IVec S256x1 32) : k1_pay6 (F := Ideal) acc v20 = k1_pay2 acc v20 := rfl

section Block

variable (w : ℕ → ℕ) (hw : ∀ x, w x < 128) (v20 : IVec S256x1 32) (hv : ∀ x : Fin 256, v20 (ix2 x 0) = BitVec.ofNat 32 (w x.val))

include hw hv

/-- One trip of the counting loop adds the block's rows of each bucket. -/
theorem pay2_count (acc : FVec Ideal S1x128 .f32) (a : Fin 128 → ℕ) (ha : ∀ b, acc (ix2 0 b) = ((a b : ℕ) : EReal)) (b : Fin 128) :
    k1_pay2 (F := Ideal) acc v20 (ix2 0 b) = ((a b + Nat.count (fun x => w x = b.val) 256 : ℕ) : EReal) := by
  pointwise [k1_pay2]
  rw [ha, Nat.cast_add, ← sum_count, Nat.cast_sum]
  congr 1
  refine Finset.sum_congr rfl fun x _ => ?_
  rw [hv, eq_number (by have := hw x.val; omega) (by omega)]

/-- A row's rank: the rows of its bucket earlier in the block, those before the block, and the rows of lesser buckets. -/
theorem pay5_count (c acc : FVec Ideal S1x128 .f32) (n a : ℕ → ℕ) (hc : ∀ b : Fin 128, c (ix2 0 b) = ((n b.val : ℕ) : EReal))
    (ha : ∀ b : Fin 128, acc (ix2 0 b) = ((a b.val : ℕ) : EReal)) (r : Fin 256)
    (hlt : Nat.count (fun x => w x = w r.val) r.val + a (w r.val) + ∑ b ∈ Finset.range (w r.val), n b < 2 ^ 31) :
    k1_pay5 (F := Ideal) c acc v20 (ix2 r 0)
      = BitVec.ofNat 32 (Nat.count (fun x => w x = w r.val) r.val + a (w r.val) + ∑ b ∈ Finset.range (w r.val), n b) := by
  rw [← count_word hlt]
  pointwise [k1_pay5, k1_pay4]
  congr 1
  rw [Finset.sum_eq_single (⟨w r.val, hw _⟩ : Fin 128)]
  · rw [hv, eq_number (by have := hw r.val; omega) (by have := hw r.val; omega), if_pos rfl, Nat.cast_one, one_mul, ha, Nat.cast_add, Nat.cast_add]
    congr 2
    · rw [Nat.count_eq_card_filter_range, Finset.card_filter, ← sum_below _ r.isLt.le, Nat.cast_sum]
      refine Finset.sum_congr rfl fun x _ => ?_
      rw [hv, lt_number (by omega) (by omega), eq_number (by have := hw x.val; omega) (by have := hw r.val; omega), ← EReal.natCast_mul]
      congr 1
      split <;> simp
    · rw [← sum_below _ (hw r.val).le, Nat.cast_sum]
      refine Finset.sum_congr rfl fun x _ => ?_
      rw [hc, lt_number (by omega) (by have := hw r.val; omega), ← EReal.natCast_mul]
      congr 1
      split <;> simp
  · intro b _ hb
    rw [hv, eq_number (by have := hw r.val; omega) (by omega), if_neg fun e => hb (Fin.ext e.symm), Nat.cast_zero, zero_mul]
  · exact fun h => absurd (Finset.mem_univ _) h

end Block

section Column

variable (X : S8192x1.Idx → Elt Ideal .i32) (lab : Fin 8192 → ℕ) (hlab : ∀ i, lab i < 128)
  (hX : ∀ i : Fin 8192, X (ix2 i 0) = BitVec.ofNat 32 (lab i))

/-- The labels as a function of every number (0 past the rows). -/
def labAt (i : ℕ) : ℕ := if h : i < 8192 then lab ⟨i, h⟩ else 0

theorem labAt_lt (hlab : ∀ i, lab i < 128) (i : ℕ) : labAt lab i < 128 := by
  unfold labAt
  split
  · exact hlab _
  · omega

include hX in
theorem chunk_word (k : ℕ) (hk : k < 32) (x : Fin 256) : chunk (F := Ideal) X k (ix2 x 0) = BitVec.ofNat 32 (labAt lab (256 * k + x.val)) := by
  unfold chunk labAt
  have h : 256 * k + x.val < 8192 := by omega
  rw [dif_pos (show 256 * k + (ix2 x 0 : S256x1.Idx) 0 < 8192 from h), dif_pos h, ← hX]
  rfl

include hlab hX in
/-- After `k` trips the counting loop holds, of each bucket, its rows among the first `256 k`. -/
theorem counted_count (k : ℕ) (hk : k ≤ 32) (b : Fin 128) :
    counted (F := Ideal) X k1_pay1 k (ix2 0 b) = ((Nat.count (fun i => labAt lab i = b.val) (256 * k) : ℕ) : EReal) := by
  induction k generalizing b with
  | zero =>
    show k1_pay1 (F := Ideal) (ix2 0 b) = _
    pointwise [k1_pay1]
    simp
  | succ k ih =>
    show k1_pay2 (counted (F := Ideal) X k1_pay1 k) (chunk (F := Ideal) X k) (ix2 0 b) = _
    rw [pay2_count (fun x => labAt lab (256 * k + x)) (fun x => labAt_lt lab hlab _) _ (chunk_word X lab hX k (by omega)) _
      (fun b => Nat.count (fun i => labAt lab i = b.val) (256 * k)) (ih (by omega)), Nat.mul_succ, Nat.count_add]

/-- The ranking loop carries the same counts. -/
theorem passed_eq (k : ℕ) : passed (F := Ideal) X k1_pay3 k = counted (F := Ideal) X k1_pay1 k := by
  induction k with
  | zero => rfl
  | succ k ih =>
    show k1_pay6 (passed (F := Ideal) X k1_pay3 k) (chunk (F := Ideal) X k) = k1_pay2 (counted (F := Ideal) X k1_pay1 k) (chunk (F := Ideal) X k)
    rw [ih, pay6_eq]

/-- Rows of the same bucket before row `i`, and rows of lesser buckets, are together the rows before `i` in order. -/
theorem rankOf_eq_count (i : Fin 8192) :
    Nat.count (fun j => labAt lab j = lab i) i.val + ∑ b ∈ Finset.range (lab i), Nat.count (fun j => labAt lab j = b) 8192 = rankOf lab i := by
  have hat : ∀ x : Fin 8192, labAt lab x.val = lab x := fun x => by unfold labAt; rw [dif_pos x.isLt]
  have e₁ : Nat.count (fun j => labAt lab j = lab i) i.val = ∑ x : Fin 8192, (if x.val < i.val then (if lab x = lab i then 1 else 0) else 0) := by
    rw [Nat.count_eq_card_filter_range, Finset.card_filter, ← sum_below _ i.isLt.le]
    exact Finset.sum_congr rfl fun x _ => by rw [hat]
  have e₂ : ∑ b ∈ Finset.range (lab i), Nat.count (fun j => labAt lab j = b) 8192 = ∑ x : Fin 8192, (if lab x < lab i then 1 else 0) := by
    simp only [← sum_count, hat]
    rw [Finset.sum_comm]
    exact Finset.sum_congr rfl fun x _ => by rw [Finset.sum_ite_eq]; simp only [Finset.mem_range]
  rw [e₁, e₂, ← Finset.sum_add_distrib, rankOf, Finset.card_filter]
  refine Finset.sum_congr rfl fun x _ => ?_
  have hb : Before lab x i ↔ (lab x < lab i ∨ (lab x = lab i ∧ x.val < i.val)) := Iff.rfl
  simp only [hb]
  split_ifs <;> first | rfl | omega

include hlab hX in
/-- The rank kernel gives each row the number of rows that go before it. -/
theorem ranks_apply (i : Fin 8192) : ranks (F := Ideal) X (ix2 i 0) = BitVec.ofNat 32 (rankOf lab i) := by
  have hi : i.val = 256 * (i.val / 256) + i.val % 256 := by omega
  have hk : i.val / 256 < 32 := by omega
  have hl : labAt lab (256 * (i.val / 256) + i.val % 256) = lab i := by
    rw [← hi]; unfold labAt; rw [dif_pos i.isLt]
  have hcount : Nat.count (fun x => labAt lab (256 * (i.val / 256) + x) = lab i) (i.val % 256) + Nat.count (fun j => labAt lab j = lab i) (256 * (i.val / 256))
      = Nat.count (fun j => labAt lab j = lab i) i.val := by
    conv_rhs => rw [hi, Nat.count_add]
    exact Nat.add_comm _ _
  have e := pay5_count (fun x => labAt lab (256 * (i.val / 256) + x)) (fun x => labAt_lt lab hlab _) (chunk (F := Ideal) X (i.val / 256))
    (chunk_word X lab hX _ hk) (counted (F := Ideal) X k1_pay1 32) (passed (F := Ideal) X k1_pay3 (i.val / 256))
    (fun b => Nat.count (fun j => labAt lab j = b) 8192) (fun b => Nat.count (fun j => labAt lab j = b) (256 * (i.val / 256)))
    (fun b => counted_count X lab hlab hX 32 le_rfl b) (fun b => by rw [passed_eq]; exact counted_count X lab hlab hX _ hk.le b)
    ⟨i.val % 256, Nat.mod_lt _ (by decide)⟩
  simp only [hl, hcount, rankOf_eq_count] at e
  refine Eq.trans ?_ (e ((rankOf_lt lab i).trans (by decide)))
  show ranksFrom (F := Ideal) X _ _ _ = _
  rfl

end Column

end Cert.Proof

end
-- ==== Proof.KernelValue.lean ====
/-
  What the program leaves, over the extended reals: the rows of its first argument in the order a stable sort by label puts
  them.
-/
module

public import proofs.«01_k».proof.Proof.MainRun
public import proofs.«01_k».proof.Proof.LabelsValue
public import proofs.«01_k».proof.Proof.RanksValue

@[expose] public section

set_option maxRecDepth 16384

noncomputable section

namespace Cert.Proof

open Cert.KernelIdeal Cert.KernelIdeal.Gen
open Idealize.ShloMosaic Idealize.ShloMosaic.TcCoe Idealize.SL.Sem

variable (A : S8192x4096.Idx → EReal) (B : S4096x64.Idx → EReal)

/-- The rows' labels. -/
def label (i : Fin 8192) : ℕ := labelOf (products A B i)

/-- Row `k` of the result is the row a stable sort by label puts in place `k`. -/
def result : S8192x4096.Idx → EReal := fun i => A (ix2 (sorted (label A B) (i 0)) (i 1))

theorem result_rank (r : Fin 8192) (c : Fin 4096) :
    result A B (ix2 ⟨rankOf (label A B) r, rankOf_lt _ r⟩ c) = A (ix2 r c) := by
  have e : sorted (label A B) ⟨rankOf (label A B) r, rankOf_lt _ r⟩ = r := rankOf_injective _ (rankOf_sorted _ _)
  show A (ix2 (sorted (label A B) ⟨rankOf (label A B) r, rankOf_lt _ r⟩) c) = _
  rw [e]

/-- The label kernel's blocks together. -/
theorem labelsOf_apply (i : Fin 8192) : labelsOf (F := Ideal) A B (ix2 i 0) = BitVec.ofNat 32 (label A B i) := by
  refine (block_label (rowsAt (F := Ideal) A (i.val / 512)) B ⟨i.val % 512, Nat.mod_lt _ (by decide)⟩).trans ?_
  congr 2
  funext n
  refine Finset.sum_congr rfl fun k _ => ?_
  congr 1
  show A _ = A _
  congr 1
  funext a
  match a with
  | ⟨0, _⟩ => exact Fin.ext (by show (512 * (i.val / 512) + i.val % 512) % 8192 = i.val; have := i.isLt; omega)
  | ⟨1, _⟩ => rfl

/-- The rank of each row. -/
theorem ranks_labelsOf (i : Fin 8192) : ranks (F := Ideal) (labelsOf (F := Ideal) A B) (ix2 i 0) = BitVec.ofNat 32 (rankOf (label A B) i) :=
  ranks_apply _ (label A B) (fun _ => labelOf_lt _) (labelsOf_apply A B) i

/-- Row `i`'s sixteen strip numbers. -/
def stripTable : S32x32x128.Idx → BitVec 32 :=
  shapeCast S32x32x128 (addi (broadcastInDim S8192x16 ![0, 1] bcast_S8192x1_S8192x16_0_1 (muli (ranks (F := Ideal) (labelsOf (F := Ideal) A B))
    (broadcastInDim S8192x1 ![] bcast_S_S8192x1 (constantI S_ 32 16#32)))) (broadcastInDim S8192x16 ![0, 1] bcast_S1x16_S8192x16_0_1
      (broadcastInDim S1x16 ![1] bcast_S16_S1x16_1 (iotaInDim S16 32 0)))) shapeCasts_S8192x16_S32x32x128

theorem stripTable_apply (i : S32x32x128.Idx) (r : Fin 8192) (s : Fin 16) (h : ((i 0).val * 32 + (i 1).val) * 128 + (i 2).val = r.val * 16 + s.val) :
    (stripTable A B i).toNat = rankOf (label A B) r * 16 + s.val := by
  have e : stripTable A B i = BitVec.ofNat 32 (rankOf (label A B) r) * 16#32 + BitVec.ofNat 32 s.val := by
    refine (shapeCast_apply _ shapeCasts_S8192x16_S32x32x128 i (ix2 r s) ?_).trans ?_
    · rw [Shape.rowMajor_val_two, Shape.rowMajor_val_three]
      exact h.symm
    · pointwise
      rw [ranks_labelsOf]
      rfl
  have hr := rankOf_lt (label A B) r
  rw [e, BitVec.toNat_add, BitVec.toNat_mul, BitVec.toNat_ofNat, BitVec.toNat_ofNat, BitVec.toNat_ofNat]
  omega

/-- Every place of the table is some row's strip. -/
theorem place_strip (i : S32x32x128.Idx) :
    ∃ (r : Fin 8192) (s : Fin 16), ((i 0).val * 32 + (i 1).val) * 128 + (i 2).val = r.val * 16 + s.val := by
  have h0 : (i 0).val < 32 := (i 0).isLt
  have h1 : (i 1).val < 32 := (i 1).isLt
  have h2 : (i 2).val < 128 := (i 2).isLt
  refine ⟨⟨(((i 0).val * 32 + (i 1).val) * 128 + (i 2).val) / 16, by omega⟩, ⟨(((i 0).val * 32 + (i 1).val) * 128 + (i 2).val) % 16, by omega⟩, ?_⟩
  show _ = (((i 0).val * 32 + (i 1).val) * 128 + (i 2).val) / 16 * 16 + (((i 0).val * 32 + (i 1).val) * 128 + (i 2).val) % 16
  omega

/-- The table names every strip of the result once. -/
theorem stripTable_good : GoodIndex (F := Ideal) (stripTable A B) where
  lt i := by
    obtain ⟨r, s, h⟩ := place_strip i
    show (stripTable A B i).toNat < 131072
    rw [stripTable_apply A B i r s h]
    have := rankOf_lt (label A B) r
    omega
  inj i j e := by
    obtain ⟨r, s, h⟩ := place_strip i
    obtain ⟨r', s', h'⟩ := place_strip j
    change (stripTable A B i).toNat = (stripTable A B j).toNat at e
    rw [stripTable_apply A B i r s h, stripTable_apply A B j r' s' h'] at e
    have hs : s.val = s'.val := by omega
    have hr : r = r' := rankOf_injective (label A B) (by omega)
    rw [← hr, ← hs] at h'
    have hi0 : (i 0).val < 32 := (i 0).isLt
    have hi1 : (i 1).val < 32 := (i 1).isLt
    have hi2 : (i 2).val < 128 := (i 2).isLt
    have hj0 : (j 0).val < 32 := (j 0).isLt
    have hj1 : (j 1).val < 32 := (j 1).isLt
    have hj2 : (j 2).val < 128 := (j 2).isLt
    funext a
    match a with
    | ⟨0, _⟩ => exact Fin.ext (show (i 0).val = (j 0).val by omega)
    | ⟨1, _⟩ => exact Fin.ext (show (i 1).val = (j 1).val by omega)
    | ⟨2, _⟩ => exact Fin.ext (show (i 2).val = (j 2).val by omega)

/-- A matrix cut into strips. -/
def strips (M : S8192x4096.Idx → EReal) : S131072x2x128.Idx → EReal := shapeCast S131072x2x128 M shapeCasts_S8192x4096_S131072x2x128

/-- The strips put together again. -/
theorem strips_back (M : S8192x4096.Idx → EReal) : shapeCast S8192x4096 (strips M) shapeCasts_S131072x2x128_S8192x4096 = M :=
  shapeCast_shapeCast M shapeCasts_S8192x4096_S131072x2x128 shapeCasts_S131072x2x128_S8192x4096

/-- Strip `s` of row `r`. -/
theorem strips_apply (M : S8192x4096.Idx → EReal) (i : S131072x2x128.Idx) (r : Fin 8192) (s : Fin 16) (h : (i 0).val = r.val * 16 + s.val) :
    strips M i = M (ix2 r ⟨s.val * 256 + (i 1).val * 128 + (i 2).val, by
      have h1 : (i 1).val < 2 := (i 1).isLt
      have h2 : (i 2).val < 128 := (i 2).isLt
      omega⟩) := by
  refine shapeCast_apply M shapeCasts_S8192x4096_S131072x2x128 i _ ?_
  rw [Shape.rowMajor_val_two, Shape.rowMajor_val_three]
  show r.val * 4096 + (s.val * 256 + (i 1).val * 128 + (i 2).val) = ((i 0).val * 2 + (i 1).val) * 128 + (i 2).val
  omega

/-- Every worker's strips lie in the result where its part of the table says. -/
theorem strips_placed (L : grid2.Coords) : Placed (F := Ideal) L (row (F := Ideal) (stripTable A B) L) (strips A) (strips (result A B)) := by
  intro c k i j hi hj h1 h2
  rw [row_apply] at hi
  have hw := wkr_lt L
  obtain ⟨r, s, h⟩ := place_strip (ix3 ⟨wkr L, hw⟩ c k)
  have e := stripTable_apply A B _ r s h
  have hi' : (i 0).val = rankOf (label A B) r * 16 + s.val := hi.trans e
  change (wkr L * 32 + c.val) * 128 + k.val = r.val * 16 + s.val at h
  rw [strips_apply _ i ⟨rankOf (label A B) r, rankOf_lt _ r⟩ s hi', strips_apply _ j r s (by omega), result_rank]
  congr 2
  exact Fin.ext (by show s.val * 256 + (i 1).val * 128 + (i 2).val = s.val * 256 + (j 1).val * 128 + (j 2).val; rw [h1, h2])

section Read

variable (m : (ℓ : Loc nD τ sig) → Buf (Elt Ideal) ℓ) (d : Dev nD)

theorem ranked_arg0 : ranked m d (dr main_arg0) = m (d, dr main_arg0) := by
  unfold ranked labelled atLaunch
  rw [Function.update_of_ne (by decide), Function.update_of_ne (by decide)]

theorem ranked_arg1 : ranked m d (dr main_arg1) = m (d, dr main_arg1) := by
  unfold ranked labelled atLaunch
  rw [Function.update_of_ne (by decide), Function.update_of_ne (by decide)]

theorem ranked_v1 : ranked m d (dr main_v1) = ranks (F := Ideal) (labelsOf (F := Ideal) (m (d, dr main_arg0)) (m (d, dr main_arg1))) := by
  unfold ranked labelled atLaunch
  rw [Function.update_self, Function.update_self]

theorem spread_table : spread m d (dr main_v9) = stripTable (m (d, dr main_arg0)) (m (d, dr main_arg1)) := by
  unfold spread spreadOps
  after_results
  rw [ranked_v1]
  rfl

theorem spread_strips : spread m d (dr main_v10) = strips (m (d, dr main_arg0)) := by
  unfold spread spreadOps
  after_results
  rw [ranked_arg0]
  rfl

theorem spread_arg0 : spread m d (dr main_arg0) = m (d, dr main_arg0) := by
  unfold spread spreadOps
  after_results
  exact ranked_arg0 m d

theorem spread_arg1 : spread m d (dr main_arg1) = m (d, dr main_arg1) := by
  unfold spread spreadOps
  after_results
  exact ranked_arg1 m d

/-- What the SparseCore call starts from and leaves. -/
def plan : Plan Ideal where
  X d := spread m d (dr main_v10)
  I d := spread m d (dr main_v9)
  O₀ d := spread m d (dr main_v11)
  G d := strips (result (m (d, dr main_arg0)) (m (d, dr main_arg1)))
  good d := by rw [spread_table]; exact stripTable_good _ _
  placed d L := by rw [spread_table, spread_strips]; exact strips_placed _ _ L

theorem plan_fits : Fits m (plan m) := ⟨fun _ => rfl, fun _ => rfl, fun _ => rfl⟩

theorem atEnd_arg0 : atEnd m (plan m) d (dr main_arg0) = m (d, dr main_arg0) := by
  unfold atEnd lastOps
  after_results
  unfold scattered
  rw [Function.update_of_ne (by decide)]
  exact spread_arg0 m d

theorem atEnd_arg1 : atEnd m (plan m) d (dr main_arg1) = m (d, dr main_arg1) := by
  unfold atEnd lastOps
  after_results
  unfold scattered
  rw [Function.update_of_ne (by decide)]
  exact spread_arg1 m d

theorem last_result (V : Valuation τ sig (Elt Ideal)) :
    StableHlo.after lastOps V (dr main_v12) = shapeCast S8192x4096 (V (dr main_v11)) shapeCasts_S131072x2x128_S8192x4096 := by
  unfold lastOps
  after_results
  rfl

theorem scattered_strips : scattered m (plan m) d (dr main_v11) = strips (result (m (d, dr main_arg0)) (m (d, dr main_arg1))) := by
  unfold scattered
  exact Function.update_self ..

theorem atEnd_result : atEnd m (plan m) d (dr main_v12) = result (m (d, dr main_arg0)) (m (d, dr main_arg1)) :=
  (last_result _).trans ((congrArg (fun M => shapeCast S8192x4096 M shapeCasts_S131072x2x128_S8192x4096) (scattered_strips m d)).trans (strips_back _))

end Read

/-- The program runs; it leaves its arguments as they were, the rows in order, and every counter at zero. -/
theorem kernel_run (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩ fun r =>
      (∀ c : Dev nD, r.2.mem ((c.tc : Thread nD τ).loc main_v12) = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (run (F := Ideal) m (plan m) ρ (plan_fits m)) ?_
  rintro r ⟨hmem, hsem⟩
  refine ⟨fun c => ⟨?_, ?_, ?_⟩, hsem⟩
  · exact (hmem c _ (Pipeline.devRef_mem_ucRefs rfl)).trans (atEnd_result m c)
  · exact (hmem c _ (Pipeline.devRef_mem_ucRefs rfl)).trans (atEnd_arg0 m c)
  · exact (hmem c _ (Pipeline.devRef_mem_ucRefs rfl)).trans (atEnd_arg1 m c)

end Cert.Proof

end
-- ==== Proof.ReferenceRun.lean ====
/-
  The reference's run.
-/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.Proof

open Cert.ReferenceIdeal Cert.ReferenceIdeal.Gen
open Idealize.ShloMosaic Idealize.ShloMosaic.TcCoe Idealize.SL Idealize.SL.Sem

section Terms

variable (A : S8192x4096.Idx → EReal) (B : S4096x64.Idx → EReal)

/-- The products followed by their negations. -/
def refValues : FVec Ideal S8192x128 .f32 :=
  concatenate S8192x128 1 [⟨S8192x64, Host.dotGeneral (F := Ideal) (φ₁ := .f32) (φ₂ := .f32) dot_S8192x4096_S4096x64_S8192x64_1_0_0_1_n_n none A B⟩,
    ⟨S8192x64, Host.negf (F := Ideal) (φ := .f32) (Host.dotGeneral (F := Ideal) (φ₁ := .f32) (φ₂ := .f32) dot_S8192x4096_S4096x64_S8192x64_1_0_0_1_n_n none A B)⟩]
    concatenates_S8192x64_S8192x64_S8192x128_d1

/-- The same, as the equation that folds it. -/
theorem refValues_eq : concatenate S8192x128 1 [⟨S8192x64, Host.dotGeneral (F := Ideal) (φ₁ := .f32) (φ₂ := .f32) dot_S8192x4096_S4096x64_S8192x64_1_0_0_1_n_n none A B⟩,
    ⟨S8192x64, Host.negf (F := Ideal) (φ := .f32) (Host.dotGeneral (F := Ideal) (φ₁ := .f32) (φ₂ := .f32) dot_S8192x4096_S4096x64_S8192x64_1_0_0_1_n_n none A B)⟩]
    concatenates_S8192x64_S8192x64_S8192x128_d1 = refValues A B := rfl

/-- Where each row of values is greatest. -/
def refLabels (y : FVec Ideal S8192x128 .f32) : IVec S8192 32 := fun j =>
  (Host.argReduce (F := Ideal) (φ := .f32) (reducer_argmax_f32_i32 (F := Ideal)) y (iotaInDim S8192x128 32 1) (constant (F := Ideal) S_ .f32 0xFF800000#32)
    (constantI S_ 32 0#32) reducesTo_S8192x128_S8192_d1 h_S_ j).2

/-- The same, as the equation that folds it. -/
theorem refLabels_eq (y : FVec Ideal S8192x128 .f32) : (fun j =>
    (Host.argReduce (F := Ideal) (φ := .f32) (reducer_argmax_f32_i32 (F := Ideal)) y (iotaInDim S8192x128 32 1) (constant (F := Ideal) S_ .f32 0xFF800000#32)
      (constantI S_ 32 0#32) reducesTo_S8192x128_S8192_d1 h_S_ j).2) = refLabels y := rfl

/-- The positions in order of label. -/
def refOrder (l : IVec S8192 32) : IVec S8192 32 := (Host.sort2 S8192 0 comparator_i32_i32_d0 l (iotaInDim S8192 32 0)).2

/-- The same, as the equation that folds it. -/
theorem refOrder_eq (l : IVec S8192 32) : (Host.sort2 S8192 0 comparator_i32_i32_d0 l (iotaInDim S8192 32 0)).2 = refOrder l := rfl

/-- The positions with the negative ones counted from the end, as a column. -/
def refWrapped (p : IVec S8192 32) : IVec S8192x1 32 :=
  broadcastInDim S8192x1 ![0] bcast_S8192_S8192x1_0 (select (cmpi .slt p (broadcastInDim S8192 ![] bcast_S_S8192 (constantI S_ 32 0#32)))
    (addi p (broadcastInDim S8192 ![] bcast_S_S8192 (constantI S_ 32 8192#32))) p)

/-- Which of them lie in range. -/
def refInRange (q : IVec S8192x1 32) : IVec S8192 1 :=
  Host.reduce IntOp.andi (andi (cmpi .sge q (broadcastInDim S8192x1 ![] bcast_S_S8192x1 (constantI S_ 32 0#32)))
    (cmpi .sle q (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The rows at the positions `p`. -/
def refTake (p : IVec S8192 32) : FVec Ideal S8192x4096 .f32 :=
  select (broadcastInDim S8192x4096 ![0] bcast_S8192_S8192x4096_0 (refInRange (refWrapped p)))
    (Host.gather gather_S8192x4096_S8192x1_S8192x4096_1_0_n_n_0_1_14096 A (refWrapped p))
    (broadcastInDim S8192x4096 ![] bcast_S_S8192x4096 (constant (F := Ideal) S_ .f32 0x7FC00000#32))

end Terms

/-- A typed reference to the rows by the buffer's own name reads the buffer as it is. -/
theorem rows_read (h1 h2 h3) (v : (main_arg0 : Ref sig .tc).ty.Contents (Elt Ideal)) :
    (StableHlo.TRef.of (T := ⟨S8192x4096, .f32⟩) main_arg0 h1 h2 h3).ofBuf v = v := rfl

/-- So does one to the values. -/
theorem values_read (h1 h2 h3) (v : (main_v2 : Ref sig .tc).ty.Contents (Elt Ideal)) :
    (StableHlo.TRef.of (T := ⟨S8192x128, .f32⟩) main_v2 h1 h2 h3).ofBuf v = v := rfl

/-- What is written to the result's buffer is what it holds. -/
theorem result_written (h1 h2 h3) (v : (⟨S8192x4096, .f32⟩ : BufTy).Contents (Elt Ideal)) :
    (StableHlo.TRef.of (T := ⟨S8192x4096, .f32⟩) main_v5 h1 h2 h3).toBuf v = v := rfl

/-- **The reference's run**, whatever the name `X` of the value it is shown to leave. -/
theorem reference_run (m : (ℓ : Loc nD τ sig) → Buf (Elt Ideal) ℓ) (ρ : Dev nD → PrngReg) (X : Dev nD → S8192x4096.Idx → EReal)
    (hX : ∀ c : Dev nD, X c = refTake (m ((c.tc : Thread nD τ).loc main_arg0))
      (refOrder (refLabels (refValues (m ((c.tc : Thread nD τ).loc main_arg0)) (m ((c.tc : Thread nD τ).loc main_arg1)))))) :
    θ_run (Cert.ReferenceIdeal.defs (F := Ideal)) (onTc (τ := τ) (Cert.ReferenceIdeal.main (F := Ideal))) ⟨m, fun _ => 0, ρ⟩ fun r =>
      ∀ c : Dev nD, r.2.mem ((c.tc : Thread nD τ).loc main_v5) = X c
        ∧ r.2.mem ((c.tc : Thread nD τ).loc main_arg0) = m ((c.tc : Thread nD τ).loc main_arg0)
        ∧ r.2.mem ((c.tc : Thread nD τ).loc main_arg1) = m ((c.tc : Thread nD τ).loc main_arg1) := by
  hlo_run
  simp only [StableHlo.TRef.ofBuf_toBuf]
  rw [values_read, rows_read, hX, refValues_eq]
  generalize refValues (m ((c.tc : Thread nD τ).loc main_arg0)) (m ((c.tc : Thread nD τ).loc main_arg1)) = y
  rw [refLabels_eq]
  generalize refLabels y = l
  rw [refOrder_eq]
  generalize refOrder l = p
  exact result_written _ _ _ _

/-- **The reference's frame**: it ends, its arguments as they were and every semaphore at zero — it has none. -/
theorem reference_frame (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  Idealize.ShloMosaic.θ_run_mono (reference_run m ρ _ fun _ => rfl) fun r h => ⟨fun c => (h c).2, sem_eq_zero_of_no_sems rfl r.2⟩

end Cert.Proof

end
-- ==== Proof.ReferenceLabels.lean ====
/-
  The reference's labels: its fold over a row's values and their places leaves the first place of the greatest.
-/
module

public import proofs.«01_k».proof.Proof.ReferenceRun
public import proofs.«01_k».proof.Proof.RanksValue
public import proofs.«01_k».proof.Proof.LabelsValue

@[expose] public section

set_option maxRecDepth 16384

noncomputable section

namespace Cert.Proof

open Cert.ReferenceIdeal Cert.ReferenceIdeal.Gen
open Idealize.ShloMosaic Idealize.ShloMosaic.TcCoe

/-- One step of the fold: the greater value with its place, the lesser place where the values agree. -/
theorem argmax_step (a b : EReal × BitVec 32) :
    reducer_argmax_f32_i32 (F := Ideal) a b
      = (if b.1 < a.1 then a.1 else b.1, if b.1 < a.1 ∨ (a.1 = b.1 ∧ a.2.slt b.2 = true) then a.2 else b.2) := by
  have e1 : (FloatOps.cmpf (F := Ideal) (φ := .f32) .ogt a.1 b.1) = BitVec.ofBool (decide (b.1 < a.1)) := rfl
  have e2 : (FloatOps.cmpf (F := Ideal) (φ := .f32) .une a.1 a.1) = BitVec.ofBool (decide (a.1 ≠ a.1)) := rfl
  have e3 : (FloatOps.cmpf (F := Ideal) (φ := .f32) .oeq a.1 b.1) = BitVec.ofBool (decide (a.1 = b.1)) := rfl
  unfold reducer_argmax_f32_i32
  simp only [e1, e2, e3, Scalar.select, IntOp.ori, IntOp.andi, IntOp.cmpi]
  by_cases h1 : b.1 < a.1
  · by_cases h2 : a.1 = b.1 <;> by_cases h3 : a.2.slt b.2 = true <;> simp [h1, h2, h3]
  · by_cases h2 : a.1 = b.1 <;> by_cases h3 : a.2.slt b.2 = true <;> simp [h1, h2, h3]

/-- What the fold holds once it has met the places of `S`: a place `k` and a value no value met exceeds and none before `k` reaches. -/
def Held (y : Fin 128 → EReal) (S : Fin 128 → Prop) (a : EReal × BitVec 32) : Prop :=
  ∃ k : Fin 128, a.2 = BitVec.ofNat 32 k.val ∧ (∀ n, S n → y n ≤ a.1) ∧ (∀ n, S n → y n = a.1 → k ≤ n) ∧ ((a.1 = ⊥ ∧ k.val = 0) ∨ a.1 = y k)

theorem held_step {y : Fin 128 → EReal} {S : Fin 128 → Prop} {a : EReal × BitVec 32} (h : Held y S a) (n : Fin 128) :
    Held y (fun j => S j ∨ j = n) (reducer_argmax_f32_i32 (F := Ideal) a (y n, BitVec.ofNat 32 n.val)) := by
  obtain ⟨v, w⟩ := a
  obtain ⟨k, hw, hle, hfirst, hv⟩ := h
  simp only at hw hle hfirst hv
  subst hw
  rw [argmax_step]
  have hs : (BitVec.ofNat 32 k.val).slt (BitVec.ofNat 32 n.val) = decide (k.val < n.val) := word_lt (by omega) (by omega)
  simp only [hs, decide_eq_true_eq]
  rcases lt_trichotomy (y n) v with hlt | heq | hgt
  · refine ⟨k, by simp [hlt], ?_, ?_, by simpa [hlt] using hv⟩
    · rintro j (hj | rfl)
      · simpa [hlt] using hle j hj
      · simpa [hlt] using hlt.le
    · rintro j (hj | rfl) e
      · exact hfirst j hj (by simpa [hlt] using e)
      · exact absurd (by simpa [hlt] using e) hlt.ne
  · subst heq
    by_cases hk : k.val < n.val
    · refine ⟨k, by simp [hk], ?_, ?_, by simpa using hv⟩
      · rintro j (hj | rfl)
        · simpa using hle j hj
        · simp
      · rintro j (hj | rfl) e
        · exact hfirst j hj (by simpa using e)
        · exact Fin.le_def.2 hk.le
    · refine ⟨n, by simp [hk], ?_, ?_, Or.inr (by simp)⟩
      · rintro j (hj | rfl)
        · simpa using hle j hj
        · simp
      · rintro j (hj | rfl) e
        · exact (Fin.le_def.2 (not_lt.1 hk)).trans (hfirst j hj (by simpa using e))
        · exact le_rfl
  · have h1 : ¬ y n < v := not_lt.2 hgt.le
    have h2 : v ≠ y n := hgt.ne
    refine ⟨n, by simp [h1, h2], ?_, ?_, Or.inr (by simp [h1])⟩
    · rintro j (hj | rfl)
      · simpa [h1] using (hle j hj).trans hgt.le
      · simp [h1]
    · rintro j (hj | rfl) e
      · exact absurd (by simpa [h1] using e) (lt_of_le_of_lt (hle j hj) hgt).ne
      · exact le_rfl

/-- The fold over a list of places with their values, from what it holds. -/
theorem held_foldl {y : Fin 128 → EReal} (l : List (EReal × BitVec 32)) (hl : ∀ p ∈ l, ∃ n : Fin 128, p = (y n, BitVec.ofNat 32 n.val)) :
    ∀ (S : Fin 128 → Prop) (a : EReal × BitVec 32), Held y S a →
      Held y (fun j => S j ∨ (y j, BitVec.ofNat 32 j.val) ∈ l) (l.foldl (reducer_argmax_f32_i32 (F := Ideal)) a) := by
  induction l with
  | nil => exact fun S a h => by simpa using h
  | cons p l ih =>
    intro S a h
    obtain ⟨n, rfl⟩ := hl p (List.mem_cons_self ..)
    obtain ⟨k, hw, hle, hfirst, hv⟩ := ih (fun p hp => hl p (List.mem_cons_of_mem _ hp)) _ _ (held_step h n)
    have hn : ∀ j : Fin 128, (y j, BitVec.ofNat 32 j.val) = (y n, BitVec.ofNat 32 n.val) → j = n := fun j e =>
      Fin.ext ((word_inj (by omega) (by omega)).1 (congrArg Prod.snd e))
    refine ⟨k, hw, fun j hj => hle j ?_, fun j hj => hfirst j ?_, hv⟩ <;>
    · rcases hj with hj | hj
      · exact Or.inl (Or.inl hj)
      · rcases List.mem_cons.1 hj with hj | hj
        · exact Or.inl (Or.inr (hn j hj))
        · exact Or.inr hj

/-- Once every place is met, what is held is the first place of the greatest value. -/
theorem firstMax_of_held {y : Fin 128 → EReal} {S : Fin 128 → Prop} {a : EReal × BitVec 32} (hS : ∀ n, S n) (h : Held y S a) :
    ∃ k : ℕ, FirstMax y k ∧ a.2 = BitVec.ofNat 32 k := by
  obtain ⟨k, hw, hle, hfirst, hv⟩ := h
  have hk : a.1 = y k := by
    rcases hv with ⟨hb, -⟩ | hv
    · exact hb.trans (le_bot_iff.1 ((hle k (hS k)).trans hb.le)).symm
    · exact hv
  refine ⟨k.val, ⟨k.isLt, fun j => (hle j (hS j)).trans hk.le, fun j hj => ?_⟩, hw⟩
  refine lt_of_le_of_ne ((hle j (hS j)).trans hk.le) fun e => ?_
  have := Fin.le_def.1 (hfirst j (hS j) (e.trans hk.symm))
  omega

/-- An index of the values that is kept by dropping the places is one of its row. -/
theorem drop_row (i : S8192x128.Idx) (j : S8192.Idx) : reducesTo_S8192x128_S8192_d1.drop i = j ↔ i 0 = j 0 := by
  have hv : (reducesTo_S8192x128_S8192_d1.drop i 0 : Nat) = i 0 := Shape.ReducesTo.drop_apply_val _ i 0
  constructor
  · rintro rfl
    exact Fin.ext hv.symm
  · intro h
    funext a
    match a with
    | ⟨0, _⟩ => exact Fin.ext (hv.trans (congrArg Fin.val h))

/-- The reference's label of a row is the first place of the row's greatest value. -/
theorem refLabels_first (x : FVec Ideal S8192x128 .f32) (r : Fin 8192) :
    ∃ k : ℕ, FirstMax (fun n : Fin 128 => x (ix2 r n)) k ∧ refLabels x (ix1 r) = BitVec.ofNat 32 k := by
  unfold refLabels
  rw [Ideal.argReduce_eq_reduce2, Host.reduce2_eq_foldl_fiber]
  have h0 : Held (fun n : Fin 128 => x (ix2 r n)) (fun _ => False) (Ideal.ofBits .f32 0xFF800000#32, 0#32) :=
    ⟨0, rfl, fun _ h => h.elim, fun _ h => h.elim, Or.inl ⟨ofBits_bot, rfl⟩⟩
  refine firstMax_of_held (fun n => Or.inr ?_) (held_foldl (Host.argReduceFiber x (iotaInDim S8192x128 32 1) reducesTo_S8192x128_S8192_d1 (ix1 r)) ?_ _ _ h0)
  · refine List.mem_map.2 ⟨S8192x128.rowMajor (ix2 r n), List.mem_filter.2 ⟨List.mem_finRange _, ?_⟩, ?_⟩
    · rw [Equiv.symm_apply_apply]
      exact decide_eq_true ((drop_row _ _).2 rfl)
    · rw [Equiv.symm_apply_apply]
      rfl
  · intro p hp
    obtain ⟨m, hm, rfl⟩ := List.mem_map.1 hp
    have hd := (drop_row _ _).1 (of_decide_eq_true (List.mem_filter.1 hm).2)
    generalize S8192x128.rowMajor.symm m = i at hd
    refine ⟨i 1, Prod.ext (congrArg x ?_) rfl⟩
    funext a
    match a with
    | ⟨0, _⟩ => exact hd
    | ⟨1, _⟩ => rfl

end Cert.Proof

end
-- ==== Proof.ReferenceValue.lean ====
/-
  What the reference leaves: the rows in the order its stable sort by label puts them.
-/
module

public import proofs.«01_k».proof.Proof.ReferenceRun
public import proofs.«01_k».proof.Proof.ReferenceLabels
public import proofs.«01_k».proof.Proof.Order
public import Idealize.ShloMosaic.Lib.Pointwise
public import Idealize.ShloMosaic.Lib.Routing.Ops

@[expose] public section

set_option maxRecDepth 16384

noncomputable section

namespace Cert.Proof

open Cert.ReferenceIdeal Cert.ReferenceIdeal.Gen
open Idealize.ShloMosaic Idealize.ShloMosaic.TcCoe

variable (A : S8192x4096.Idx → EReal) (B : S4096x64.Idx → EReal)

/-- The values are a row's products followed by their negations. -/
theorem refValues_apply (r : Fin 8192) (n : Fin 128) : refValues A B (ix2 r n) = bothSigns (products A B r) n := by
  unfold bothSigns products
  pointwise [refValues]

/-- A sort of words and their positions by the words, at any length: the positions it leaves are those of the stable sort. -/
theorem sort2_positions {n : ℕ} (l : (⟨1, ![n]⟩ : Shape).Idx → BitVec 32) (lab : Fin n → ℕ) (hlab : ∀ i, lab i < 128)
    (hl : ∀ i, l (ix1 i) = BitVec.ofNat 32 (lab i)) (k : Fin n) :
    (Host.sort2 ⟨1, ![n]⟩ 0 comparator_i32_i32_d0 l (iotaInDim ⟨1, ![n]⟩ 32 0)).2 (ix1 k) = BitVec.ofNat 32 (sorted lab k).val := by
  have e : ∀ a : Fin n, Shape.Idx.along (s := ⟨1, ![n]⟩) (ix1 k) (0 : Fin 1) a = ix1 a := fun a => by
    funext b
    match b with
    | ⟨0, _⟩ => rfl
  have hc : (fun a b : Fin n => comparator_i32_i32_d0
      (l (Shape.Idx.along (s := ⟨1, ![n]⟩) (ix1 k) (0 : Fin 1) a), iotaInDim ⟨1, ![n]⟩ 32 0 (Shape.Idx.along (s := ⟨1, ![n]⟩) (ix1 k) (0 : Fin 1) a))
      (l (Shape.Idx.along (s := ⟨1, ![n]⟩) (ix1 k) (0 : Fin 1) b), iotaInDim ⟨1, ![n]⟩ 32 0 (Shape.Idx.along (s := ⟨1, ![n]⟩) (ix1 k) (0 : Fin 1) b)) == 1#1)
      = fun a b => decide (lab a < lab b) := by
    funext a b
    rw [e, e]
    show (BitVec.ofBool ((l (ix1 a)).slt (l (ix1 b))) == 1#1) = _
    rw [hl, hl, word_lt (by have := hlab a; omega) (by have := hlab b; omega)]
    by_cases h : lab a < lab b <;> simp [h]
  have h : (Host.sort2 ⟨1, ![n]⟩ 0 comparator_i32_i32_d0 l (iotaInDim ⟨1, ![n]⟩ 32 0)).2 (ix1 k)
      = iotaInDim ⟨1, ![n]⟩ 32 0 (Shape.Idx.along (s := ⟨1, ![n]⟩) (ix1 k) (0 : Fin 1) (sortedFrom (fun a b : Fin n => comparator_i32_i32_d0
      (l (Shape.Idx.along (s := ⟨1, ![n]⟩) (ix1 k) (0 : Fin 1) a), iotaInDim ⟨1, ![n]⟩ 32 0 (Shape.Idx.along (s := ⟨1, ![n]⟩) (ix1 k) (0 : Fin 1) a))
      (l (Shape.Idx.along (s := ⟨1, ![n]⟩) (ix1 k) (0 : Fin 1) b), iotaInDim ⟨1, ![n]⟩ 32 0 (Shape.Idx.along (s := ⟨1, ![n]⟩) (ix1 k) (0 : Fin 1) b)) == 1#1) k)) := by
    unfold Host.sort2
    rw [dif_pos (show 0 < (⟨1, ![n]⟩ : Shape).rank from Nat.one_pos)]
    rfl
  refine h.trans ((congrArg (iotaInDim ⟨1, ![n]⟩ 32 0) (e _)).trans ?_)
  exact congrArg (fun f : Fin n → Fin n → Bool => BitVec.ofNat 32 (sortedFrom f k).val) hc

/-- The positions the reference's sort leaves. -/
theorem refOrder_apply (l : IVec S8192 32) (lab : Fin 8192 → ℕ) (hlab : ∀ i, lab i < 128) (hl : ∀ i, l (ix1 i) = BitVec.ofNat 32 (lab i)) (k : Fin 8192) :
    refOrder l (ix1 k) = BitVec.ofNat 32 (sorted lab k).val := sort2_positions l lab hlab hl k

/-- A position in range is left as it is. -/
theorem refWrapped_apply (p : IVec S8192 32) (k : Fin 8192) (b : Fin 8192) (hb : p (ix1 k) = BitVec.ofNat 32 b.val) :
    refWrapped p (ix2 k 0) = BitVec.ofNat 32 b.val := by
  have h0 : (BitVec.ofNat 32 b.val).slt 0#32 = false :=
    (word_lt (a := b.val) (b := 0) (by omega) (by decide)).trans (decide_eq_false (Nat.not_lt_zero _))
  pointwise [refWrapped]
  rw [hb]
  show Scalar.select (BitVec.ofBool ((BitVec.ofNat 32 b.val).slt 0#32)) _ _ = _
  rw [h0]
  rfl

theorem refInRange_apply (q : IVec S8192x1 32) (k : Fin 8192) (b : Fin 8192) (hb : q (ix2 k 0) = BitVec.ofNat 32 b.val) :
    refInRange q (ix1 k) = 1#1 := by
  have h0 : (0#32).sle (BitVec.ofNat 32 b.val) = true := by
    rw [BitVec.sle_eq_not_slt, word_lt (a := b.val) (b := 0) (by omega) (by decide)]
    simp
  have h1 : (BitVec.ofNat 32 b.val).sle 8191#32 = true := by
    rw [BitVec.sle_eq_not_slt, word_lt (a := 8191) (b := b.val) (by decide) (by omega)]
    simpa using Nat.le_of_lt_succ b.isLt
  pointwise [refInRange]
  rw [Fin.univ_castSuccEmb, Finset.fold_cons]
  show IntOp.andi (IntOp.andi (BitVec.ofBool ((0#32).sle (q (ix2 k 0)))) (BitVec.ofBool ((q (ix2 k 0)).sle 8191#32))) (1#1) = 1#1
  rw [hb, h0, h1]
  rfl

theorem refTake_apply (p : IVec S8192 32) (k : Fin 8192) (c : Fin 4096) (b : Fin 8192) (hb : p (ix1 k) = BitVec.ofNat 32 b.val) :
    refTake A p (ix2 k c) = A (ix2 b c) := by
  have hw := refWrapped_apply p k b hb
  have hr := refInRange_apply _ k b hw
  have hg : Host.gather gather_S8192x4096_S8192x1_S8192x4096_1_0_n_n_0_1_14096 A (refWrapped p) (ix2 k c) = A (ix2 b c) :=
    Routing.gather_row gather_S8192x4096_S8192x1_S8192x4096_1_0_n_n_0_1_14096 rfl rfl rfl rfl rfl A (refWrapped p) k c b hw (by decide)
  unfold refTake
  generalize Host.gather gather_S8192x4096_S8192x1_S8192x4096_1_0_n_n_0_1_14096 A (refWrapped p) = G at hg
  generalize refInRange (refWrapped p) = M at hr
  pointwise
  rw [hr, hg]
  rfl

/-- **The reference's value**: the rows in the order a stable sort by label puts them. -/
theorem reference_value : refTake A (refOrder (refLabels (refValues A B)))
    = fun i => A (ix2 (sorted (fun r : Fin 8192 => labelOf (products A B r)) (i 0)) (i 1)) := by
  have hl : ∀ r : Fin 8192, refLabels (refValues A B) (ix1 r) = BitVec.ofNat 32 (labelOf (products A B r)) := fun r => by
    obtain ⟨k, hk, e⟩ := refLabels_first (refValues A B) r
    rw [e]
    simp only [refValues_apply] at hk
    rw [hk.unique (labelOf_firstMax _)]
  funext i
  idx_vars i
  exact refTake_apply A _ _ _ _ (refOrder_apply _ _ (fun _ => labelOf_lt _) hl _)

end Cert.Proof

end
-- ==== Proof.lean ====
/-
  The certificate's proof: the kernel's run, the reference's, and that they leave the same rows in the same order.
-/
module

public import proofs.«01_k».proof.Defs
public import proofs.«01_k».proof.Proof.Gen.KernelIdeal
public import proofs.«01_k».proof.Proof.Gen.ReferenceIdeal
public import proofs.«01_k».proof.Proof.KernelValue
public import proofs.«01_k».proof.Proof.ReferenceValue

@[expose] public section

noncomputable section

namespace Cert.Proof

open Idealize.ShloMosaic Idealize.SL Idealize.SL.Sem

/-- The kernel's frame. -/
theorem kernel_frame : Cert.quiescent_KernelIdeal := fun m g _ =>
  Idealize.ShloMosaic.θ_run_mono (kernel_run m g) fun _ h => ⟨fun c => (h.1 c).2, h.2⟩

/-- Both leave the rows of the first argument in the order of a stable sort by label. -/
theorem same_value : Cert.algebraic_KernelIdeal_ReferenceIdeal := fun m g m' g' _ hagree =>
  ⟨fun c => result (m (c.tc.loc Cert.KernelIdeal.main_arg0)) (m (c.tc.loc Cert.KernelIdeal.main_arg1)),
    Idealize.ShloMosaic.θ_run_mono (kernel_run m g) fun _ h => h.1,
    reference_run m' g' _ fun c => by
      rw [(hagree c).1, (hagree c).2]
      exact (reference_value _ _).symm⟩

/-- **The certificate.** -/
theorem claim : Cert.Claim :=
  ⟨Cert.KernelIdeal.Gen.facts, Cert.ReferenceIdeal.Gen.facts, kernel_frame, fun m g _ => reference_frame m g, same_value⟩

end Cert.Proof

end
